-- ==== Defs.lean ====
def Pre_Kernel [hPre_consecutive_columns : Cert.Pre_consecutive_columns.Facts] (m : (ℓ : Loc Cert.Kernel.nD Cert.Kernel.τ Cert.Kernel.sig) → Buf (Elt Bits) ℓ) : Prop :=
  ∀ c : Dev Cert.Kernel.nD,
    (Cert.Pre_consecutive_columns.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_consecutive_columns : Cert.Pre_consecutive_columns.Facts] (m : (ℓ : Loc Cert.KernelIdeal.nD Cert.KernelIdeal.τ Cert.KernelIdeal.sig) → Buf (Elt Ideal) ℓ) : Prop :=
  ∀ c : Dev Cert.KernelIdeal.nD,
    (Cert.Pre_consecutive_columns.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_consecutive_columns [hPre_consecutive_columns : Cert.Pre_consecutive_columns.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_consecutive_columns.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] [hPre_consecutive_columns : Cert.Pre_consecutive_columns.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_consecutive_columns : Cert.Pre_consecutive_columns.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_consecutive_columns [hReferenceIdeal : Cert.ReferenceIdeal.Facts] [hPre_consecutive_columns : Cert.Pre_consecutive_columns.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_consecutive_columns m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_consecutive_columns : Cert.Pre_consecutive_columns.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_consecutive_columns : Cert.Pre_consecutive_columns.Facts),
    quiescent_Kernel (hKernel := hKernel) (hPre_consecutive_columns := hPre_consecutive_columns)
    ∧ quiescent_KernelIdeal (hKernelIdeal := hKernelIdeal) (hPre_consecutive_columns := hPre_consecutive_columns)
    ∧ quiescent_ReferenceIdeal (hReferenceIdeal := hReferenceIdeal)
    ∧ quiescent_ReferenceIdeal_pre_consecutive_columns (hReferenceIdeal := hReferenceIdeal) (hPre_consecutive_columns := hPre_consecutive_columns)
    ∧ preserves_Kernel_KernelIdeal
    ∧ algebraic_KernelIdeal_ReferenceIdeal (hKernelIdeal := hKernelIdeal) (hReferenceIdeal := hReferenceIdeal) (hPre_consecutive_columns := hPre_consecutive_columns)
-- ==== Pre_consecutive_columns.lean ====
abbrev S16384x1000 : Shape := ⟨2, ![16384, 1000]⟩
abbrev S128 : Shape := ⟨1, ![128]⟩
abbrev S1 : Shape := ⟨1, ![1]⟩
abbrev S_ : Shape := ⟨0, ![]⟩

class Facts : Prop where
  slices_S128_S1_0 : S128.Slices ![0] S1
  bcast_S1_S128_0 : S1.BroadcastsInDim S128 (![0] : Fin 1 → Fin S128.rank)
  bcast_S_S128 : S_.BroadcastsInDim S128 (![] : Fin 0 → Fin S128.rank)

variable [Facts]

def fn_part1 {F : FTy → Type} [FloatOps F] (main_v12 : IVec S128 1) (main_v17 : IVec S128 1) (main_v19 : IVec S128 1) : IVec S128 1 :=
  let main_v20 : IVec S128 1 := andi main_v17 main_v19
  let main_v21 : IVec S128 1 := andi main_v12 main_v20
  main_v21

def fn {F : FTy → Type} [FloatOps F] (main_arg0 : FVec F S16384x1000 .f32) (main_arg1 : IVec S128 32) (main_arg2 : IVec S128 32) : IVec S128 1 :=
  let main_v0 : IVec S128 32 := iotaInDim S128 32 0
  let main_v1 : IVec S1 32 := (extractStridedSlice S1 ![0] · slices_S128_S1_0) main_arg1
  let main_v2 : IVec S128 32 := broadcastInDim S128 ![0] bcast_S1_S128_0 main_v1
  let main_v3 : IVec S1 32 := (extractStridedSlice S1 ![0] · slices_S128_S1_0) main_arg2
  let main_v4 : IVec S128 32 := broadcastInDim S128 ![0] bcast_S1_S128_0 main_v3
  let main_c : IVec S_ 32 := constantI S_ 32 0#32
  let main_v5 : IVec S128 32 := broadcastInDim S128 ![] bcast_S_S128 main_c
  let main_v6 : IVec S128 1 := cmpi .sge main_v2 main_v5
  let main_c_0 : IVec S_ 32 := constantI S_ 32 871#32
  let main_v7 : IVec S128 32 := broadcastInDim S128 ![] bcast_S_S128 main_c_0
  let main_v8 : IVec S128 1 := cmpi .sle main_v2 main_v7
  let main_v9 : IVec S128 1 := andi main_v6 main_v8
  let main_v10 : IVec S128 32 := addi main_v2 main_v0
  let main_v11 : IVec S128 1 := cmpi .eq main_arg1 main_v10
  let main_v12 : IVec S128 1 := andi main_v9 main_v11
  let main_c_1 : IVec S_ 32 := constantI S_ 32 0#32
  let main_v13 : IVec S128 32 := broadcastInDim S128 ![] bcast_S_S128 main_c_1
  let main_v14 : IVec S128 1 := cmpi .sge main_v4 main_v13
  let main_c_2 : IVec S_ 32 := constantI S_ 32 871#32
  let main_v15 : IVec S128 32 := broadcastInDim S128 ![] bcast_S_S128 main_c_2
  let main_v16 : IVec S128 1 := cmpi .sle main_v4 main_v15
  let main_v17 : IVec S128 1 := andi main_v14 main_v16
  let main_v18 : IVec S128 32 := addi main_v4 main_v0
  let main_v19 : IVec S128 1 := cmpi .eq main_arg2 main_v18
  fn_part1 (F := F) main_v12 main_v17 main_v19
-- ==== Kernel.lean ====
abbrev S16384x1000 : Shape := ⟨2, ![16384, 1000]⟩
abbrev S128 : Shape := ⟨1, ![128]⟩
abbrev S32x16 : Shape := ⟨2, ![32, 16]⟩
abbrev S16 : Shape := ⟨1, ![16]⟩
abbrev S256x136 : Shape := ⟨2, ![256, 136]⟩
abbrev S_ : Shape := ⟨0, ![]⟩
abbrev S1 : Shape := ⟨1, ![1]⟩
abbrev S1x16 : Shape := ⟨2, ![1, 16]⟩

abbrev nBuf : Table → Nat
  | .hbm => 6
  | .local .scVector .vmem => 4
  | _ => 0

abbrev bufTy : (tb : Table) → Fin (nBuf tb) → BufTy
  | .hbm, ⟨0, _⟩ => ⟨S16384x1000, .f32⟩
  | .hbm, ⟨1, _⟩ => ⟨S128, .i32⟩
  | .hbm, ⟨2, _⟩ => ⟨S128, .i32⟩
  | .hbm, ⟨3, _⟩ => ⟨S32x16, .f32⟩
  | .hbm, ⟨4, _⟩ => ⟨S_, .f32⟩
  | .hbm, ⟨5, _⟩ => ⟨S_, .f32⟩
  | .local .scVector .vmem, ⟨0, _⟩ => ⟨S16, .i32⟩
  | .local .scVector .vmem, ⟨1, _⟩ => ⟨S256x136, .f32⟩
  | .local .scVector .vmem, ⟨2, _⟩ => ⟨S256x136, .f32⟩
  | .local .scVector .vmem, ⟨3, _⟩ => ⟨S16, .f32⟩
  | _, _ => ⟨S16384x1000, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_v0_scv : Ref sig .scVector := ⟨.hbm, 3, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (v6 : BitVec 32) : BitVec 32 :=
  let c0_i32 : BitVec 32 := 0#32
  let v12 : BitVec 1 := Scalar.cmpi .sgt v6 c0_i32
  let v13 : BitVec 32 := Scalar.extui v12
  let c0_i32_1 : BitVec 32 := 0#32
  let v14 : BitVec 1 := Scalar.cmpi .slt v6 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v6 c8_i32
  let c0_i32_4 : BitVec 32 := 0#32
  let v24 : BitVec 1 := Scalar.cmpi .ne v23 c0_i32_4
  let v25 : BitVec 1 := Scalar.andi v22 v24
  let v11 : BitVec 32 := Scalar.divsi v6 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  v28

def k0_mult2 (v10 : BitVec 32) : BitVec 32 :=
  let c0_i32_7 : BitVec 32 := 0#32
  let v31 : BitVec 1 := Scalar.cmpi .sgt v10 c0_i32_7
  let v32 : BitVec 32 := Scalar.extui v31
  let c0_i32_8 : BitVec 32 := 0#32
  let v33 : BitVec 1 := Scalar.cmpi .slt v10 c0_i32_8
  let v34 : BitVec 32 := Scalar.extui v33
  let v35 : BitVec 32 := Scalar.subi v32 v34
  let c8_i32_6 : BitVec 32 := 8#32
  let c0_i32_9 : BitVec 32 := 0#32
  let v36 : BitVec 1 := Scalar.cmpi .sgt c8_i32_6 c0_i32_9
  let v37 : BitVec 32 := Scalar.extui v36
  let c0_i32_10 : BitVec 32 := 0#32
  let v38 : BitVec 1 := Scalar.cmpi .slt c8_i32_6 c0_i32_10
  let v39 : BitVec 32 := Scalar.extui v38
  let v40 : BitVec 32 := Scalar.subi v37 v39
  let v41 : BitVec 1 := Scalar.cmpi .ne v35 v40
  let v42 : BitVec 32 := Scalar.remsi v10 c8_i32_6
  let c0_i32_11 : BitVec 32 := 0#32
  let v43 : BitVec 1 := Scalar.cmpi .ne v42 c0_i32_11
  let v44 : BitVec 1 := Scalar.andi v41 v43
  let v30 : BitVec 32 := Scalar.divsi v10 c8_i32_6
  let c1_i32_12 : BitVec 32 := 1#32
  let v45 : BitVec 32 := Scalar.subi v30 c1_i32_12
  let v46 : BitVec 32 := Scalar.select v44 v45 v30
  let c8_i32_13 : BitVec 32 := 8#32
  let v47 : BitVec 32 := Scalar.muli v46 c8_i32_13
  v47

@[reducible] def k0_t1_loop : Scf.Loop 32 :=
  let c0_i32_14 : BitVec 32 := 0#32
  let c2_i32_15 : BitVec 32 := 2#32
  let v52 : BitVec 32 := Scalar.addi c0_i32_14 c2_i32_15
  let c1_i32_16 : BitVec 32 := 1#32
  ⟨c0_i32_14, v52, c1_i32_16⟩
def k0_off1 (i : grid0.Coords) (v6 : BitVec 32) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let c1_i32_16 : BitVec 32 := 1#32
  let arg10 : BitVec 32 := Scf.iv c0_i32_14 c1_i32_16 k0_t1
  let c256_i32 : BitVec 32 := 256#32
  let v59 : BitVec 32 := Scalar.muli arg10 c256_i32
  let v60 : BitVec 32 := Scalar.addi v2 v59
  let c0_i32 : BitVec 32 := 0#32
  let v12 : BitVec 1 := Scalar.cmpi .sgt v6 c0_i32
  let v13 : BitVec 32 := Scalar.extui v12
  let c0_i32_1 : BitVec 32 := 0#32
  let v14 : BitVec 1 := Scalar.cmpi .slt v6 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v6 c8_i32
  let c0_i32_4 : BitVec 32 := 0#32
  let v24 : BitVec 1 := Scalar.cmpi .ne v23 c0_i32_4
  let v25 : BitVec 1 := Scalar.andi v22 v24
  let v11 : BitVec 32 := Scalar.divsi v6 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let v29 : BitVec 32 := v28
  ![v60.toNat, v29.toNat]
def k0_off2 (i : grid0.Coords) (v10 : BitVec 32) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_14 : BitVec 32 := 0#32
  let c1_i32_16 : BitVec 32 := 1#32
  let arg10 : BitVec 32 := Scf.iv c0_i32_14 c1_i32_16 k0_t1
  let c256_i32 : BitVec 32 := 256#32
  let v59 : BitVec 32 := Scalar.muli arg10 c256_i32
  let v60 : BitVec 32 := Scalar.addi v2 v59
  let c0_i32_7 : BitVec 32 := 0#32
  let v31 : BitVec 1 := Scalar.cmpi .sgt v10 c0_i32_7
  let v32 : BitVec 32 := Scalar.extui v31
  let c0_i32_8 : BitVec 32 := 0#32
  let v33 : BitVec 1 := Scalar.cmpi .slt v10 c0_i32_8
  let v34 : BitVec 32 := Scalar.extui v33
  let v35 : BitVec 32 := Scalar.subi v32 v34
  let c8_i32_6 : BitVec 32 := 8#32
  let c0_i32_9 : BitVec 32 := 0#32
  let v36 : BitVec 1 := Scalar.cmpi .sgt c8_i32_6 c0_i32_9
  let v37 : BitVec 32 := Scalar.extui v36
  let c0_i32_10 : BitVec 32 := 0#32
  let v38 : BitVec 1 := Scalar.cmpi .slt c8_i32_6 c0_i32_10
  let v39 : BitVec 32 := Scalar.extui v38
  let v40 : BitVec 32 := Scalar.subi v37 v39
  let v41 : BitVec 1 := Scalar.cmpi .ne v35 v40
  let v42 : BitVec 32 := Scalar.remsi v10 c8_i32_6
  let c0_i32_11 : BitVec 32 := 0#32
  let v43 : BitVec 1 := Scalar.cmpi .ne v42 c0_i32_11
  let v44 : BitVec 1 := Scalar.andi v41 v43
  let v30 : BitVec 32 := Scalar.divsi v10 c8_i32_6
  let c1_i32_12 : BitVec 32 := 1#32
  let v45 : BitVec 32 := Scalar.subi v30 c1_i32_12
  let v46 : BitVec 32 := Scalar.select v44 v45 v30
  let c8_i32_13 : BitVec 32 := 8#32
  let v47 : BitVec 32 := Scalar.muli v46 c8_i32_13
  let v48 : BitVec 32 := v47
  ![v60.toNat, v48.toNat]
@[reducible] def k0_t2_loop : Scf.Loop 32 :=
  let c0_i32_20 : BitVec 32 := 0#32
  let c256_i32_21 : BitVec 32 := 256#32
  let v61 : BitVec 32 := Scalar.addi c0_i32_20 c256_i32_21
  let c1_i32_22 : BitVec 32 := 1#32
  ⟨c0_i32_20, v61, c1_i32_22⟩
def k0_off3 (v6 : BitVec 32) (k0_t2 : Fin k0_t2_loop.trips) (c0_i32_24 : BitVec 32) : Fin 2 → Nat :=
  let c0_i32_20 : BitVec 32 := 0#32
  let c1_i32_22 : BitVec 32 := 1#32
  let arg12 : BitVec 32 := Scf.iv c0_i32_20 c1_i32_22 k0_t2
  let v64 : Index := Scalar.indexCast arg12
  let c0_i32 : BitVec 32 := 0#32
  let v12 : BitVec 1 := Scalar.cmpi .sgt v6 c0_i32
  let v13 : BitVec 32 := Scalar.extui v12
  let c0_i32_1 : BitVec 32 := 0#32
  let v14 : BitVec 1 := Scalar.cmpi .slt v6 c0_i32_1
  let v15 : BitVec 32 := Scalar.extui v14
  let v16 : BitVec 32 := Scalar.subi v13 v15
  let c8_i32 : BitVec 32 := 8#32
  let c0_i32_2 : BitVec 32 := 0#32
  let v17 : BitVec 1 := Scalar.cmpi .sgt c8_i32 c0_i32_2
  let v18 : BitVec 32 := Scalar.extui v17
  let c0_i32_3 : BitVec 32 := 0#32
  let v19 : BitVec 1 := Scalar.cmpi .slt c8_i32 c0_i32_3
  let v20 : BitVec 32 := Scalar.extui v19
  let v21 : BitVec 32 := Scalar.subi v18 v20
  let v22 : BitVec 1 := Scalar.cmpi .ne v16 v21
  let v23 : BitVec 32 := Scalar.remsi v6 c8_i32
  let c0_i32_4 : BitVec 32 := 0#32
  let v24 : BitVec 1 := Scalar.cmpi .ne v23 c0_i32_4
  let v25 : BitVec 1 := Scalar.andi v22 v24
  let v11 : BitVec 32 := Scalar.divsi v6 c8_i32
  let c1_i32 : BitVec 32 := 1#32
  let v26 : BitVec 32 := Scalar.subi v11 c1_i32
  let v27 : BitVec 32 := Scalar.select v25 v26 v11
  let c8_i32_5 : BitVec 32 := 8#32
  let v28 : BitVec 32 := Scalar.muli v27 c8_i32_5
  let v29 : BitVec 32 := v28
  let v49 : BitVec 32 := Scalar.subi v6 v29
  let v63 : BitVec 32 := Scalar.addi v49 c0_i32_24
  let v65 : Index := Scalar.indexCast v63
  ![v64.toNat, v65.toNat]

def k0_chk1 (i : grid0.Coords) (v6 : BitVec 32) : Prop :=
  (8 ∣ (k0_mult1 v6).toNat) ∧
  (∀ k0_t1 : Fin k0_t1_loop.trips, ∀ a, (k0_off1 i v6 k0_t1) a + S256x136.size a ≤ S16384x1000.size a) ∧
  (∀ k0_t2 : Fin k0_t2_loop.trips, ∀ (r : Fin 8), ∀ a, (k0_off3 v6 k0_t2 (BitVec.ofNat 32 (16 * r.val))) a + S1x16.size a ≤ S256x136.size a)
theorem k0_mult1_dvd : ∀ (i : grid0.Coords) (v6 : BitVec 32) (k0_hw1 : k0_chk1 i v6), 8 ∣ (k0_mult1 v6).toNat := fun i v6 k0_hw1 => k0_hw1.1
theorem k0_off1_inb : ∀ (i : grid0.Coords) (v6 : BitVec 32) (k0_hw1 : k0_chk1 i v6) (k0_t1 : Fin k0_t1_loop.trips), ∀ a, (k0_off1 i v6 k0_t1) a + S256x136.size a ≤ S16384x1000.size a := fun i v6 k0_hw1 k0_t1 => k0_hw1.2.1 k0_t1
theorem k0_off3_inb : ∀ (i : grid0.Coords) (v6 : BitVec 32) (k0_hw1 : k0_chk1 i v6) (k0_t2 : Fin k0_t2_loop.trips), ∀ (r : Fin 8), ∀ a, (k0_off3 v6 k0_t2 (BitVec.ofNat 32 (16 * r.val))) a + S1x16.size a ≤ S256x136.size a := fun i v6 k0_hw1 k0_t2 r => k0_hw1.2.2 k0_t2 r

def k0_off4 (v10 : BitVec 32) (k0_t2 : Fin k0_t2_loop.trips) (c0_i32_25 : BitVec 32) : Fin 2 → Nat :=
  let c0_i32_20 : BitVec 32 := 0#32
  let c1_i32_22 : BitVec 32 := 1#32
  let arg12 : BitVec 32 := Scf.iv c0_i32_20 c1_i32_22 k0_t2
  let v69 : Index := Scalar.indexCast arg12
  let c0_i32_7 : BitVec 32 := 0#32
  let v31 : BitVec 1 := Scalar.cmpi .sgt v10 c0_i32_7
  let v32 : BitVec 32 := Scalar.extui v31
  let c0_i32_8 : BitVec 32 := 0#32
  let v33 : BitVec 1 := Scalar.cmpi .slt v10 c0_i32_8
  let v34 : BitVec 32 := Scalar.extui v33
  let v35 : BitVec 32 := Scalar.subi v32 v34
  let c8_i32_6 : BitVec 32 := 8#32
  let c0_i32_9 : BitVec 32 := 0#32
  let v36 : BitVec 1 := Scalar.cmpi .sgt c8_i32_6 c0_i32_9
  let v37 : BitVec 32 := Scalar.extui v36
  let c0_i32_10 : BitVec 32 := 0#32
  let v38 : BitVec 1 := Scalar.cmpi .slt c8_i32_6 c0_i32_10
  let v39 : BitVec 32 := Scalar.extui v38
  let v40 : BitVec 32 := Scalar.subi v37 v39
  let v41 : BitVec 1 := Scalar.cmpi .ne v35 v40
  let v42 : BitVec 32 := Scalar.remsi v10 c8_i32_6
  let c0_i32_11 : BitVec 32 := 0#32
  let v43 : BitVec 1 := Scalar.cmpi .ne v42 c0_i32_11
  let v44 : BitVec 1 := Scalar.andi v41 v43
  let v30 : BitVec 32 := Scalar.divsi v10 c8_i32_6
  let c1_i32_12 : BitVec 32 := 1#32
  let v45 : BitVec 32 := Scalar.subi v30 c1_i32_12
  let v46 : BitVec 32 := Scalar.select v44 v45 v30
  let c8_i32_13 : BitVec 32 := 8#32
  let v47 : BitVec 32 := Scalar.muli v46 c8_i32_13
  let v48 : BitVec 32 := v47
  let v50 : BitVec 32 := Scalar.subi v10 v48
  let v68 : BitVec 32 := Scalar.addi v50 c0_i32_25
  let v70 : Index := Scalar.indexCast v68
  ![v69.toNat, v70.toNat]

def k0_chk2 (i : grid0.Coords) (v10 : BitVec 32) : Prop :=
  (8 ∣ (k0_mult2 v10).toNat) ∧
  (∀ k0_t1 : Fin k0_t1_loop.trips, ∀ a, (k0_off2 i v10 k0_t1) a + S256x136.size a ≤ S16384x1000.size a) ∧
  (∀ k0_t2 : Fin k0_t2_loop.trips, ∀ (r : Fin 8), ∀ a, (k0_off4 v10 k0_t2 (BitVec.ofNat 32 (16 * r.val))) a + S1x16.size a ≤ S256x136.size a)
theorem k0_mult2_dvd : ∀ (i : grid0.Coords) (v10 : BitVec 32) (k0_hw2 : k0_chk2 i v10), 8 ∣ (k0_mult2 v10).toNat := fun i v10 k0_hw2 => k0_hw2.1
theorem k0_off2_inb : ∀ (i : grid0.Coords) (v10 : BitVec 32) (k0_hw2 : k0_chk2 i v10) (k0_t1 : Fin k0_t1_loop.trips), ∀ a, (k0_off2 i v10 k0_t1) a + S256x136.size a ≤ S16384x1000.size a := fun i v10 k0_hw2 k0_t1 => k0_hw2.2.1 k0_t1
theorem k0_off4_inb : ∀ (i : grid0.Coords) (v10 : BitVec 32) (k0_hw2 : k0_chk2 i v10) (k0_t2 : Fin k0_t2_loop.trips), ∀ (r : Fin 8), ∀ a, (k0_off4 v10 k0_t2 (BitVec.ofNat 32 (16 * r.val))) a + S1x16.size a ≤ S256x136.size a := fun i v10 k0_hw2 k0_t2 r => k0_hw2.2.2 k0_t2 r

def k0_off5 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_20_r4 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16384x1000 : Shape := ⟨2, ![16384, 1000]⟩
abbrev S128 : Shape := ⟨1, ![128]⟩
abbrev S_ : Shape := ⟨0, ![]⟩
abbrev S128x1 : Shape := ⟨2, ![128, 1]⟩
abbrev S1 : Shape := ⟨1, ![1]⟩
abbrev S1x1 : Shape := ⟨2, ![1, 1]⟩
abbrev S16384x128 : Shape := ⟨2, ![16384, 128]⟩
abbrev S16384 : Shape := ⟨1, ![16384]⟩

abbrev nBuf : Space → Nat
  | .hbm => 58
  | .vmem => 0
  | .smem => 0
  | _ => 0

abbrev bufTy : (tb : Table) → Fin (tcTables nBuf tb) → BufTy
  | .hbm, ⟨0, _⟩ => ⟨S16384x1000, .f32⟩
  | .hbm, ⟨1, _⟩ => ⟨S128, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i1⟩
  | .hbm, ⟨6, _⟩ => ⟨S_, .i32⟩
  | .hbm, ⟨7, _⟩ => ⟨S128, .i32⟩
  | .hbm, ⟨8, _⟩ => ⟨S128, .i32⟩
  | .hbm, ⟨9, _⟩ => ⟨S128, .i32⟩
  | .hbm, ⟨10, _⟩ => ⟨S128x1, .i32⟩
  | .hbm, ⟨11, _⟩ => ⟨S1, .i32⟩
  | .hbm, ⟨12, _⟩ => ⟨S_, .i32⟩
  | .hbm, ⟨13, _⟩ => ⟨S128x1, .i32⟩
  | .hbm, ⟨14, _⟩ => ⟨S128x1, .i1⟩
  | .hbm, ⟨15, _⟩ => ⟨S1x1, .i32⟩
  | .hbm, ⟨16, _⟩ => ⟨S128x1, .i32⟩
  | .hbm, ⟨17, _⟩ => ⟨S128x1, .i1⟩
  | .hbm, ⟨18, _⟩ => ⟨S128x1, .i1⟩
  | .hbm, ⟨19, _⟩ => ⟨S_, .i1⟩
  | .hbm, ⟨20, _⟩ => ⟨S128, .i1⟩
  | .hbm, ⟨21, _⟩ => ⟨S16384x128, .f32⟩
  | .hbm, ⟨22, _⟩ => ⟨S16384x128, .i1⟩
  | .hbm, ⟨23, _⟩ => ⟨S_, .f32⟩
  | .hbm, ⟨24, _⟩ => ⟨S16384x128, .f32⟩
  | .hbm, ⟨25, _⟩ => ⟨S16384x128, .f32⟩
  | .hbm, ⟨26, _⟩ => ⟨S_, .i32⟩
  | .hbm, ⟨27, _⟩ => ⟨S128, .i32⟩
  | .hbm, ⟨28, _⟩ => ⟨S128, .i1⟩
  | .hbm, ⟨29, _⟩ => ⟨S_, .i32⟩
  | .hbm, ⟨30, _⟩ => ⟨S128, .i32⟩
  | .hbm, ⟨31, _⟩ => ⟨S128, .i32⟩
  | .hbm, ⟨32, _⟩ => ⟨S128, .i32⟩
  | .hbm, ⟨33, _⟩ => ⟨S128x1, .i32⟩
  | .hbm, ⟨34, _⟩ => ⟨S1, .i32⟩
  | .hbm, ⟨35, _⟩ => ⟨S_, .i32⟩
  | .hbm, ⟨36, _⟩ => ⟨S128x1, .i32⟩
  | .hbm, ⟨37, _⟩ => ⟨S128x1, .i1⟩
  | .hbm, ⟨38, _⟩ => ⟨S1x1, .i32⟩
  | .hbm, ⟨39, _⟩ => ⟨S128x1, .i32⟩
  | .hbm, ⟨40, _⟩ => ⟨S128x1, .i1⟩
  | .hbm, ⟨41, _⟩ => ⟨S128x1, .i1⟩
  | .hbm, ⟨42, _⟩ => ⟨S_, .i1⟩
  | .hbm, ⟨43, _⟩ => ⟨S128, .i1⟩
  | .hbm, ⟨44, _⟩ => ⟨S16384x128, .f32⟩
  | .hbm, ⟨45, _⟩ => ⟨S16384x128, .i1⟩
  | .hbm, ⟨46, _⟩ => ⟨S_, .f32⟩
  | .hbm, ⟨47, _⟩ => ⟨S16384x128, .f32⟩
  | .hbm, ⟨48, _⟩ => ⟨S16384x128, .f32⟩
  | .hbm, ⟨49, _⟩ => ⟨S16384x128, .f32⟩
  | .hbm, ⟨50, _⟩ => ⟨S_, .f32⟩
  | .hbm, ⟨51, _⟩ => ⟨S16384, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_c : Ref sig .tc := ⟨.hbm, 3, rfl⟩
abbrev main_call0_v0 : Ref sig .tc := ⟨.hbm, 4, rfl⟩
abbrev main_call0_v1 : Ref sig .tc := ⟨.hbm, 5, rfl⟩
abbrev main_call0_c_0 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_call0_v5 : Ref sig .tc := ⟨.hbm, 10, rfl⟩
abbrev main_call0_c_1 : Ref sig .tc := ⟨.hbm, 11, rfl⟩
abbrev main_call0_c_2 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_3 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_cst : Ref sig .tc := ⟨.hbm, 23, rfl⟩
abbrev main_call0_v15 : Ref sig .tc := ⟨.hbm, 24, rfl⟩
abbrev main_v0 : Ref sig .tc := ⟨.hbm, 25, rfl⟩
abbrev main_call1_c : Ref sig .tc := ⟨.hbm, 26, rfl⟩
abbrev main_call1_v0 : Ref sig .tc := ⟨.hbm, 27, rfl⟩
abbrev main_call1_v1 : Ref sig .tc := ⟨.hbm, 28, rfl⟩
abbrev main_call1_c_0 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_c_1 : Ref sig .tc := ⟨.hbm, 34, rfl⟩
abbrev main_call1_c_2 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_3 : Ref sig .tc := ⟨.hbm, 42, rfl⟩
abbrev main_call1_v12 : Ref sig .tc := ⟨.hbm, 43, rfl⟩
abbrev main_call1_v13 : Ref sig .tc := ⟨.hbm, 44, rfl⟩
abbrev main_call1_v14 : Ref sig .tc := ⟨.hbm, 45, rfl⟩
abbrev main_call1_cst : Ref sig .tc := ⟨.hbm, 46, rfl⟩
abbrev main_call1_v15 : Ref sig .tc := ⟨.hbm, 47, rfl⟩
abbrev main_v1 : Ref sig .tc := ⟨.hbm, 48, rfl⟩
abbrev main_v2 : Ref sig .tc := ⟨.hbm, 49, rfl⟩
abbrev main_cst : Ref sig .tc := ⟨.hbm, 50, rfl⟩
abbrev main_v3 : Ref sig .tc := ⟨.hbm, 51, rfl⟩
abbrev main_cst_0 : Ref sig .tc := ⟨.hbm, 52, rfl⟩
abbrev main_v4 : Ref sig .tc := ⟨.hbm, 53, rfl⟩
abbrev main_cst_1 : Ref sig .tc := ⟨.hbm, 54, rfl⟩
abbrev main_v5 : Ref sig .tc := ⟨.hbm, 55, rfl⟩
abbrev main_cst_2 : Ref sig .tc := ⟨.hbm, 56, rfl⟩
abbrev main_v6 : Ref sig .tc := ⟨.hbm, 57, rfl⟩

abbrev nD : Nat := 1
abbrev τ : Topo := Topo.v7x

variable {F : FTy → Type} [FloatOps F]
-- ==== Proof.PreRead.lean ====
/-
  What the precondition says of the index words: each array counts up by one from a first word between 0 and 871.
-/
module

public import proofs.«01_k».proof.Proof.Gen.Pre_consecutive_columns
public import Idealize.ShloMosaic.Lib.ValueIdx

@[expose] public section

noncomputable section

namespace Cert.PreRead

open Idealize.ShloMosaic Idealize.ShloMosaic.ValueIdx
open Cert.Pre_consecutive_columns (S128 S16384x1000)

theorem andi_bits (p q : Bool) : IntOp.andi (BitVec.ofBool p) (BitVec.ofBool q) = BitVec.ofBool (p && q) := by
  cases p <;> cases q <;> decide
theorem bit_one (p : Bool) : (BitVec.ofBool p = 1#1) ↔ p = true := by cases p <;> decide

/-- The test the precondition makes of one entry: `w` the first word, `v` the entry, `n` its position's word. -/
def test (w v n : BitVec 32) : BitVec 1 :=
  IntOp.andi (IntOp.andi (IntOp.cmpi .sge w 0#32) (IntOp.cmpi .sle w 871#32)) (IntOp.cmpi .eq v (IntOp.addi w n))

theorem test_eq_ofBool (w v n : BitVec 32) : ∃ p : Bool, test w v n = BitVec.ofBool p := by
  unfold test; simp only [IntOp.cmpi, andi_bits]; exact ⟨_, rfl⟩

theorem of_test (w v : BitVec 32) (k : ℕ) (hk : k < 128) (e : test w v (BitVec.ofNat 32 k) = 1#1) :
    w.toNat ≤ 871 ∧ v.toNat = w.toNat + k := by
  unfold test at e
  simp only [IntOp.cmpi, andi_bits, bit_one, Bool.and_eq_true, BitVec.sle_eq_decide, decide_eq_true_eq,
    BitVec.toInt_eq_toNat_cond, BitVec.toNat_ofNat, Nat.reducePow, Nat.reduceMod, beq_iff_eq] at e
  obtain ⟨⟨h1, h2⟩, h3⟩ := e
  have hw : w.toNat ≤ 871 := by omega
  refine ⟨hw, ?_⟩
  rw [h3]
  simp only [IntOp.addi, BitVec.toNat_add, BitVec.toNat_ofNat]
  omega

/-- The slice holding an array's first word, repeated along the array, is that word everywhere. -/
theorem head_apply (v : IVec S128 32) (k : Fin 128) :
    broadcastInDim S128 ![0] Cert.Pre_consecutive_columns.Facts.bcast_S1_S128_0
        (extractStridedSlice Cert.Pre_consecutive_columns.S1 ![0] v Cert.Pre_consecutive_columns.Facts.slices_S128_S1_0) (ix1 k)
      = v (ix1 ⟨0, by decide⟩) := by
  simp only [broadcastInDim, extractStridedSlice]
  congr 1
  funext a
  match a with
  | 0 => apply Fin.ext; simp

/-- The precondition's value at position `k` is the two arrays' tests there. -/
theorem fn_apply {F : FTy → Type} [FloatOps F] (a0 : FVec F S16384x1000 .f32) (a1 a2 : IVec S128 32) (k : Fin 128) :
    Cert.Pre_consecutive_columns.fn (F := F) a0 a1 a2 (ix1 k)
      = IntOp.andi (test (a1 (ix1 ⟨0, by decide⟩)) (a1 (ix1 k)) (BitVec.ofNat 32 k.val))
          (test (a2 (ix1 ⟨0, by decide⟩)) (a2 (ix1 k)) (BitVec.ofNat 32 k.val)) := by
  rw [← head_apply a1 k, ← head_apply a2 k]
  rfl

/-- Under the precondition each index array counts up by one from a first word of at most 871. -/
theorem of_pre {F : FTy → Type} [FloatOps F] (a0 : FVec F S16384x1000 .f32) (a1 a2 : IVec S128 32)
    (h : Cert.Pre_consecutive_columns.fn (F := F) a0 a1 a2 = fun _ => 1#1) :
    ((a1 (ix1 ⟨0, by decide⟩)).toNat ≤ 871 ∧ ∀ k : Fin 128, (a1 (ix1 k)).toNat = (a1 (ix1 ⟨0, by decide⟩)).toNat + k.val)
      ∧ ((a2 (ix1 ⟨0, by decide⟩)).toNat ≤ 871 ∧ ∀ k : Fin 128, (a2 (ix1 k)).toNat = (a2 (ix1 ⟨0, by decide⟩)).toNat + k.val) := by
  have key : ∀ k : Fin 128, ((a1 (ix1 ⟨0, by decide⟩)).toNat ≤ 871 ∧ (a1 (ix1 k)).toNat = (a1 (ix1 ⟨0, by decide⟩)).toNat + k.val)
      ∧ ((a2 (ix1 ⟨0, by decide⟩)).toNat ≤ 871 ∧ (a2 (ix1 k)).toNat = (a2 (ix1 ⟨0, by decide⟩)).toNat + k.val) := fun k => by
    have e := (fn_apply a0 a1 a2 k).symm.trans (congrFun h (ix1 k))
    obtain ⟨p, hp⟩ := test_eq_ofBool (a1 (ix1 ⟨0, by decide⟩)) (a1 (ix1 k)) (BitVec.ofNat 32 k.val)
    obtain ⟨q, hq⟩ := test_eq_ofBool (a2 (ix1 ⟨0, by decide⟩)) (a2 (ix1 k)) (BitVec.ofNat 32 k.val)
    rw [hp, hq, andi_bits, bit_one, Bool.and_eq_true] at e
    exact And.intro (of_test _ _ k.val k.isLt (hp.trans ((bit_one p).2 e.1))) (of_test _ _ k.val k.isLt (hq.trans ((bit_one q).2 e.2)))
  exact ⟨⟨(key ⟨0, by decide⟩).1.1, fun k => (key k).1.2⟩, ⟨(key ⟨0, by decide⟩).2.1, fun k => (key k).2.2⟩⟩

end Cert.PreRead

end
-- ==== Proof.Ideal.Words.lean ====
/-
  The words the kernel computes from the first entry of an index array: for an entry `w` of at most 871 the window starts
  at column `w / 8 * 8` and the entry is column `w % 8` of the window, so every copy lies in the table and every load in
  its copy.
-/
module

public import proofs.«01_k».proof.Proof.Gen.KernelIdeal

@[expose] public section

noncomputable section

namespace Cert.KernelIdeal.Words

open Cert.KernelIdeal Cert.KernelIdeal.Gen
open Idealize.ShloMosaic

/-- The window's first column, over the words of at most 871. -/
theorem mult1_small : ∀ n : Fin 872, (k0_mult1 (BitVec.ofNat 32 n.val)).toNat = n.val / 8 * 8 := by decide +kernel
theorem mult2_small : ∀ n : Fin 872, (k0_mult2 (BitVec.ofNat 32 n.val)).toNat = n.val / 8 * 8 := by decide +kernel

/-- A word of value `n` is the word written for `n`. -/
theorem ofNat_toNat (w : BitVec 32) : BitVec.ofNat 32 w.toNat = w := by
  apply BitVec.eq_of_toNat_eq; simp

theorem mult1_toNat (w : BitVec 32) (h : w.toNat ≤ 871) : (k0_mult1 w).toNat = w.toNat / 8 * 8 := by
  have e := mult1_small ⟨w.toNat, by omega⟩
  simp only [ofNat_toNat] at e; exact e
theorem mult2_toNat (w : BitVec 32) (h : w.toNat ≤ 871) : (k0_mult2 w).toNat = w.toNat / 8 * 8 := by
  have e := mult2_small ⟨w.toNat, by omega⟩
  simp only [ofNat_toNat] at e; exact e

/-- The rows: trip `t` of task `L` starts at row `512 * (2 * L 1 + L 0) + 256 * t`. -/
theorem row_toNat : ∀ (L : grid0.Coords) (t : Fin k0_t1_loop.trips),
    (Scalar.addi (Scalar.muli (Scalar.addi (Scalar.muli (BitVec.ofNat 32 (L 1).val) 2#32) (BitVec.ofNat 32 (L 0).val)) 512#32)
      (Scalar.muli (Scf.iv 0#32 1#32 t) 256#32)).toNat = 512 * (2 * (L 1).val + (L 0).val) + 256 * t.val := by decide +kernel

/-- Trip `t` of the row loop reads row `t` of the copy. -/
theorem iv_toNat : ∀ t : Fin k0_t2_loop.trips, (Scalar.indexCast (Scf.iv 0#32 1#32 t)).toNat = t.val := by decide +kernel

theorem off1_eq (L : grid0.Coords) (w : BitVec 32) (h : w.toNat ≤ 871) (t : Fin k0_t1_loop.trips) :
    k0_off1 L w t = ![512 * (2 * (L 1).val + (L 0).val) + 256 * t.val, w.toNat / 8 * 8] := by
  rw [← mult1_toNat w h, ← row_toNat L t]; rfl
theorem off2_eq (L : grid0.Coords) (w : BitVec 32) (h : w.toNat ≤ 871) (t : Fin k0_t1_loop.trips) :
    k0_off2 L w t = ![512 * (2 * (L 1).val + (L 0).val) + 256 * t.val, w.toNat / 8 * 8] := by
  rw [← mult2_toNat w h, ← row_toNat L t]; rfl

/-- An entry's column within its window, `16 r` columns further. -/
theorem col_toNat (w v : BitVec 32) (h : w.toNat ≤ 871) (hv : v.toNat = w.toNat / 8 * 8) (c : Nat) (hc : c ≤ 112) :
    (Scalar.indexCast (Scalar.addi (Scalar.subi w v) (BitVec.ofNat 32 c))).toNat = w.toNat % 8 + c := by
  have hs : (w - v).toNat = w.toNat % 8 := by rw [BitVec.toNat_sub, hv]; omega
  show ((w - v) + BitVec.ofNat 32 c).toNat = _
  rw [BitVec.toNat_add, hs, BitVec.toNat_ofNat]; omega

theorem off3_eq (w : BitVec 32) (h : w.toNat ≤ 871) (t : Fin k0_t2_loop.trips) (c : Nat) (hc : c ≤ 112) :
    k0_off3 w t (BitVec.ofNat 32 c) = ![t.val, w.toNat % 8 + c] := by
  rw [← col_toNat w _ h (mult1_toNat w h) c hc, ← iv_toNat t]; rfl
theorem off4_eq (w : BitVec 32) (h : w.toNat ≤ 871) (t : Fin k0_t2_loop.trips) (c : Nat) (hc : c ≤ 112) :
    k0_off4 w t (BitVec.ofNat 32 c) = ![t.val, w.toNat % 8 + c] := by
  rw [← col_toNat w _ h (mult2_toNat w h) c hc, ← iv_toNat t]; rfl

theorem trips1 : k0_t1_loop.trips = 2 := by decide +kernel
theorem trips2 : k0_t2_loop.trips = 256 := by decide +kernel

theorem task_lt (L : grid0.Coords) : 2 * (L 1).val + (L 0).val < 32 := by
  have h0 : (L 0).val < 2 := (L 0).isLt
  have h1 : (L 1).val < 16 := (L 1).isLt
  omega

theorem inb_off (L : grid0.Coords) (w : BitVec 32) (h : w.toNat ≤ 871) (t : Fin k0_t1_loop.trips) (a : Fin 2) :
    (![512 * (2 * (L 1).val + (L 0).val) + 256 * t.val, w.toNat / 8 * 8] : Fin 2 → Nat) a + S256x136.size a ≤ S16384x1000.size a := by
  have hL := task_lt L
  have ht : t.val < 2 := trips1 ▸ t.isLt
  match a with
  | 0 => show 512 * (2 * (L 1).val + (L 0).val) + 256 * t.val + 256 ≤ 16384; omega
  | 1 => show w.toNat / 8 * 8 + 136 ≤ 1000; omega
theorem inb_col (w : BitVec 32) (t : Fin k0_t2_loop.trips) (r : Fin 8) (a : Fin 2) :
    (![t.val, w.toNat % 8 + 16 * r.val] : Fin 2 → Nat) a + S1x16.size a ≤ S256x136.size a := by
  have ht : t.val < 256 := trips2 ▸ t.isLt
  have hr := r.isLt
  match a with
  | 0 => show t.val + 1 ≤ 256; omega
  | 1 => show w.toNat % 8 + 16 * r.val + 16 ≤ 136; omega

/-- What a task checks of its two words holds of every word of at most 871. -/
theorem chk1_of_le (L : grid0.Coords) (w : BitVec 32) (h : w.toNat ≤ 871) : k0_chk1 L w :=
  ⟨by rw [mult1_toNat w h]; exact ⟨_, Nat.mul_comm _ _⟩, fun t a => by rw [off1_eq L w h t]; exact inb_off L w h t a,
    fun t r a => by rw [off3_eq w h t _ (by have := r.isLt; omega)]; exact inb_col w t r a⟩
theorem chk2_of_le (L : grid0.Coords) (w : BitVec 32) (h : w.toNat ≤ 871) : k0_chk2 L w :=
  ⟨by rw [mult2_toNat w h]; exact ⟨_, Nat.mul_comm _ _⟩, fun t a => by rw [off2_eq L w h t]; exact inb_off L w h t a,
    fun t r a => by rw [off4_eq w h t _ (by have := r.isLt; omega)]; exact inb_col w t r a⟩

end Cert.KernelIdeal.Words

end
-- ==== Proof.Ideal.Value.lean ====
/-
  What the kernel leaves, as functions of the launch memory: a task's running sum of products row by row, the scaled sum it
  stores, and the partial sums' array.
-/
module

public import proofs.«01_k».proof.Proof.Ideal.Words
public import proofs.«01_k».proof.Proof.Gen.KernelIdeal.Skeleton
public import Idealize.ShloMosaic.Lib.ValueIdx

@[expose] public section

noncomputable section

namespace Cert.KernelIdeal.Words

open Cert.KernelIdeal Cert.KernelIdeal.Gen
open Idealize.ShloMosaic Idealize.ShloMosaic.ValueIdx

variable {F : FTy → Type} [FloatOps F]

/-- The table's entry at row `r` and column `c` (taken modulo the table's sizes, so that it is defined of any two numbers). -/
def cell (X : Vec F S16384x1000 .f32) (r c : Nat) : F .f32 :=
  X (ix2 ⟨r % 16384, Nat.mod_lt _ (by decide)⟩ ⟨c % 1000, Nat.mod_lt _ (by decide)⟩)

/-- Sixteen entries of row `r` from column `c` on. -/
def seg (X : Vec F S16384x1000 .f32) (r c : Nat) : Vec F S1x16 .f32 := fun x => cell X r (c + (x 1).val)

/-- The running sums after row `r`: eight pieces from column `bi` on, each times the piece as far from column `bj`. -/
def rowStep (X : Vec F S16384x1000 .f32) (bi bj r : Nat) (acc : FVec F S16 .f32) : FVec F S16 .f32 :=
  k0_pay5 (k0_pay1 acc (seg X r (bi + 16 * 0)) (seg X r (bj + 16 * 0)) (seg X r (bi + 16 * 1)) (seg X r (bj + 16 * 1))
      (seg X r (bi + 16 * 2)) (seg X r (bj + 16 * 2)) (seg X r (bi + 16 * 3)) (seg X r (bj + 16 * 3)))
    (seg X r (bi + 16 * 4)) (seg X r (bj + 16 * 4)) (seg X r (bi + 16 * 5)) (seg X r (bj + 16 * 5))
    (seg X r (bi + 16 * 6)) (seg X r (bj + 16 * 6)) (seg X r (bi + 16 * 7)) (seg X r (bj + 16 * 7))

/-- The running sums after `n` rows from row `r0` on. -/
def accAt (X : Vec F S16384x1000 .f32) (bi bj r0 : Nat) : Nat → FVec F S16 .f32
  | 0 => k0_pay4
  | n + 1 => rowStep X bi bj (r0 + n) (accAt X bi bj r0 n)

/-- What the task of number `k` stores: its running sums after its 512 rows, scaled. -/
def taskVec (X : Vec F S16384x1000 .f32) (bi bj k : Nat) : FVec F S16 .f32 := k0_pay6 (accAt X bi bj (512 * k) 512)

/-- The partial sums' array: row `k` what the task of number `k` stores. -/
def partials (X : Vec F S16384x1000 .f32) (bi bj : Nat) : Vec F S32x16 .f32 := fun x => taskVec X bi bj (x 0).val (ix1 (x 1))

/-- The call's result: the host's sum of the partial sums. -/
def total (X : Vec F S16384x1000 .f32) (bi bj : Nat) : Vec F S_ .f32 :=
  Host.reduceAdd (partials X bi bj) (constant S_ .f32 0x00000000#32) reducesTo_S32x16_S_d0_1 h_S_

/-- The first entry of an index array. -/
def firstWord (v : Vec F S128 .i32) : BitVec 32 := v (ix1 ⟨0, by decide⟩)

end Cert.KernelIdeal.Words

end
-- ==== Proof.Ideal.Setup.lean ====
/-
  The kernel's launch as the launch theorem sees it: what each task is handed — a share of the table and of the two index
  arrays, its own row of the partial sums — and what it brings back, that row at the task's scaled sums.
-/
module

public import proofs.«01_k».proof.Proof.Ideal.Value
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Sc

open Cert.KernelIdeal Cert.KernelIdeal.Gen Cert.KernelIdeal.Words
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds beside the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The launch memory -/

variable (m : (ℓ : Loc nD τ sig) → Buf (Elt F) ℓ) (ρ : Dev nD → PrngReg)

abbrev xLoc (d : Dev nD) : Loc nD τ sig := (SparseCore.T d).loc main_arg0
abbrev iLoc (d : Dev nD) : Loc nD τ sig := (SparseCore.T d).loc main_arg1
abbrev jLoc (d : Dev nD) : Loc nD τ sig := (SparseCore.T d).loc main_arg2
abbrev oLoc (d : Dev nD) : Loc nD τ sig := (SparseCore.T d).loc main_v0
abbrev rLoc (d : Dev nD) : Loc nD τ sig := (SparseCore.T d).loc main_v1

/-- The two words the kernel reads. -/
abbrev wI (d : Dev nD) : BitVec 32 := firstWord (F := F) (m (iLoc d))
abbrev wJ (d : Dev nD) : BitVec 32 := firstWord (F := F) (m (jLoc d))

/-- What the proof asks of the launch memory: both words are at most 871. -/
def PreOK : Prop := ∀ d : Dev nD, (wI m d).toNat ≤ 871 ∧ (wJ m d).toNat ≤ 871

/-! ## Task numbers, shares and rows -/

/-- The number of the task on subcore `s` of SparseCore `c`. -/
abbrev wid (c : Fin 2) (s : Fin 16) : Fin 32 := ⟨2 * s.val + c.val, by omega⟩

/-- Task `k`'s share of the arrays every task reads. -/
abbrev qk (k : Fin 32) : PosShare TreeShare := Transfers.dealOf fullShare Finset.univ k

theorem odiv : 32 ∣ S32x16.size 0 := ⟨1, rfl⟩
abbrev orow (k : Fin 32) : Rect S32x16 := Rect.part (s := S32x16) (a₀ := 0) odiv k
abbrev oRowSet (k : Fin 32) : Finset S32x16.Idx := ((Memref.whole main_v0_scv : Memref sig .scVector .hbm S32x16 .f32).view.slice (orow k)).set

abbrev xPts (d : Dev nD) (q : PosShare TreeShare) : sProp 𝕄 := xLoc d ↦{q} m (xLoc d)
abbrev iPts (d : Dev nD) (q : PosShare TreeShare) : sProp 𝕄 := iLoc d ↦{q} m (iLoc d)
abbrev jPts (d : Dev nD) (q : PosShare TreeShare) : sProp 𝕄 := jLoc d ↦{q} m (jLoc d)
abbrev oRowPts (d : Dev nD) (k : Fin 32) (f : Buf (Elt F) (oLoc d)) : sProp 𝕄 := oLoc d ↦[oRowSet k]{fullShare} f

variable [FloatOps F]

/-- What the partial sums' array ends holding. -/
abbrev outF (d : Dev nD) : Buf (Elt F) (oLoc d) := partials (F := F) (m (xLoc d)) (wI m d).toNat (wJ m d).toNat

/-- What task `k` is handed: its shares and its row, the row at `f`; it brings back the same at another `f`. -/
abbrev taskRes (d : Dev nD) (k : Fin 32) (f : Buf (Elt F) (oLoc d)) : sProp 𝕄 :=
  iprop(xPts m d (qk k) ∗ iPts m d (qk k) ∗ jPts m d (qk k) ∗ oRowPts d k f)

/-- The call hands SparseCore `c` its sixteen tasks' things and takes them back, the rows at the tasks' scaled sums. -/
def P : (K (F := F)).Pay (nD := nD) (Val := Elt F) (Name := ℕ) (U := UU) where
  st := fun q d c => match q with | 0 => bigSep Finset.univ fun s : Fin 16 => taskRes m d (wid (Fin.cast nCore_zero c) s) (m (oLoc d))
  dn := fun q d c => match q with | 0 => bigSep Finset.univ fun s : Fin 16 => taskRes m d (wid (Fin.cast nCore_zero c) s) (outF m d)
  go := fun q d c i => match q with | 0 => taskRes m d (wid (Fin.cast nCore_zero c) (Fin.cast nSub_zero i)) (m (oLoc d))
  td := fun q d c i => match q with | 0 => taskRes m d (wid (Fin.cast nCore_zero c) (Fin.cast nSub_zero i)) (outF m d)
  x := fun _ _ => iprop(emp)

instance P_storable : (P (F := F) m).IsStorable where
  st q d c := match q with
    | 0 => (inferInstance : BI.Storable (upEmb : UEmb _ 𝕄) (bigSep Finset.univ fun s : Fin 16 => taskRes m d (wid (Fin.cast nCore_zero c) s) (m (oLoc d))))
  dn q d c := match q with
    | 0 => (inferInstance : BI.Storable (upEmb : UEmb _ 𝕄) (bigSep Finset.univ fun s : Fin 16 => taskRes m d (wid (Fin.cast nCore_zero c) s) (outF m d)))
  go q d c i := match q with
    | 0 => (inferInstance : BI.Storable (upEmb : UEmb _ 𝕄) (taskRes m d (wid (Fin.cast nCore_zero c) (Fin.cast nSub_zero i)) (m (oLoc d))))
  td q d c i := match q with
    | 0 => (inferInstance : BI.Storable (upEmb : UEmb _ 𝕄) (taskRes m d (wid (Fin.cast nCore_zero c) (Fin.cast nSub_zero i)) (outF m d)))

/-! ## The tasks' things, all together -/

omit [FloatOps F] in
theorem oRowSet_eq (k : Fin 32) : oRowSet k = (orow k).set := by
  show ((View.whole (main_v0_scv : Ref sig .scVector)).slice (orow k)).set = _
  rw [View.set_slice]; exact Finset.map_refl

omit [FloatOps F] in
/-- The array of partial sums is its 32 rows. -/
theorem oPts_rows (d : Dev nD) (f : Buf (Elt F) (oLoc d)) :
    (oLoc d ↦{fullShare} f : sProp 𝕄) = bigSep Finset.univ fun k : Fin 32 => oRowPts d k f := by
  have hd : ∀ k ∈ (Finset.univ : Finset (Fin 32)), ∀ l ∈ (Finset.univ : Finset (Fin 32)), k ≠ l → Disjoint (oRowSet k) (oRowSet l) :=
    fun k _ l _ h => by rw [oRowSet_eq, oRowSet_eq]; exact Rect.part_disjoint odiv h
  have hc : (Finset.univ : Finset (Fin 32)).biUnion oRowSet = Finset.univ :=
    (Finset.biUnion_congr rfl fun k _ => oRowSet_eq k).trans (Rect.biUnion_part odiv)
  rw [← pointsTo_biUnion Finset.univ (ℓ := oLoc d) oRowSet hd, hc]; try rfl

/-- Pairs of a SparseCore and a subcore against task numbers. -/
def widEquiv : Fin 2 × Fin 16 ≃ Fin 32 := (Equiv.prodComm _ _).trans (finProdFinEquiv (m := 16) (n := 2))
theorem widEquiv_apply (c : Fin 2) (s : Fin 16) : widEquiv (c, s) = wid c s :=
  Fin.ext (by simp [widEquiv, finProdFinEquiv]; omega)

/-- The four arrays whole are the 32 tasks' things. -/
theorem whole_eq (d : Dev nD) (f : Buf (Elt F) (oLoc d)) :
    (iprop(xPts m d fullShare ∗ iPts m d fullShare ∗ jPts m d fullShare ∗ oLoc d ↦{fullShare} f) : sProp 𝕄)
      = bigSep Finset.univ fun c : Fin 2 => bigSep Finset.univ fun s : Fin 16 => taskRes m d (wid c s) f := by
  have e : (bigSep Finset.univ fun c : Fin 2 => bigSep Finset.univ fun s : Fin 16 => taskRes m d (wid c s) f)
      = bigSep Finset.univ fun k : Fin 32 => taskRes m d k f := by
    rw [bigSep_univ_equiv widEquiv, bigSep_univ_prod]
    exact bigSep_congr fun c _ => bigSep_congr fun s _ => by rw [widEquiv_apply]
  rw [e]
  unfold taskRes xPts iPts jPts
  rw [Transfers.pointsTo_deal (ℓ := xLoc d) (f := m (xLoc d)) (Finset.univ : Finset (Fin 32)) ⟨0, Finset.mem_univ _⟩ fullShare,
    Transfers.pointsTo_deal (ℓ := iLoc d) (f := m (iLoc d)) (Finset.univ : Finset (Fin 32)) ⟨0, Finset.mem_univ _⟩ fullShare,
    Transfers.pointsTo_deal (ℓ := jLoc d) (f := m (jLoc d)) (Finset.univ : Finset (Fin 32)) ⟨0, Finset.mem_univ _⟩ fullShare,
    oPts_rows]
  rw [bigSep_sep', bigSep_sep', bigSep_sep']

theorem vecSplit : (K (F := F)).VecSplit' (P m) 0 := by
  intro d c
  show (bigSep Finset.univ fun s : Fin 16 => taskRes m d (wid (Fin.cast nCore_zero c) s) (m (oLoc d))) ⊢ |={Set.univ}=> iprop(
      (bigSep Finset.univ fun i : Fin 16 => taskRes m d (wid (Fin.cast nCore_zero c) i) (m (oLoc d)))
      ∗ ((bigSep Finset.univ fun i : Fin 16 => taskRes m d (wid (Fin.cast nCore_zero c) i) (outF m d))
          -∗ bigSep Finset.univ fun s : Fin 16 => taskRes m d (wid (Fin.cast nCore_zero c) s) (outF m d)))
  iintro H; imodintro
  isplitl [H]; · iexact H
  iintro H; iexact H

theorem st0_eq (d : Dev nD) : (bigSep Finset.univ fun c : Fin ((K (F := F)).nCore 0) => (P m).st 0 d c)
    = iprop(xPts m d fullShare ∗ iPts m d fullShare ∗ jPts m d fullShare ∗ oLoc d ↦{fullShare} m (oLoc d)) :=
  (whole_eq m d (m (oLoc d))).symm
theorem dn0_eq (d : Dev nD) : (bigSep Finset.univ fun c : Fin ((K (F := F)).nCore 0) => (P m).dn 0 d c)
    = iprop(xPts m d fullShare ∗ iPts m d fullShare ∗ jPts m d fullShare ∗ oLoc d ↦{fullShare} outF m d) :=
  (whole_eq m d (outF m d)).symm

end Cert.KernelIdeal.Sc

end
-- ==== Proof.Ideal.Spell.lean ====
/-
  A task's memory as its own instructions address it: the arrays, the scratches, its row of the partial sums, the five
  transfer semaphores — and what the scoped allocations of a vector subcore amount to.
-/
module

public import proofs.«01_k».proof.Proof.Ideal.Setup

@[expose] public section

noncomputable section

namespace Cert.KernelIdeal.Sc

open Cert.KernelIdeal Cert.KernelIdeal.Gen Cert.KernelIdeal.Words
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ)

/-- The arrays and scratches as a task names them, each whole. -/
abbrev xV : Memref sig .scVector .hbm S16384x1000 .f32 := Memref.whole main_arg0_scv
abbrev iV : Memref sig .scVector .hbm S128 .i32 := Memref.whole main_arg1_scv
abbrev jV : Memref sig .scVector .hbm S128 .i32 := Memref.whole main_arg2_scv
abbrev oV : Memref sig .scVector .hbm S32x16 .f32 := Memref.whole main_v0_scv
abbrev sV : Memref sig .scVector .vmem S16 .i32 := Memref.whole cc0_scratch0
abbrev aV : Memref sig .scVector .vmem S256x136 .f32 := Memref.whole cc0_scratch1
abbrev bV : Memref sig .scVector .vmem S256x136 .f32 := Memref.whole cc0_scratch2
abbrev tV : Memref sig .scVector .vmem S16 .f32 := Memref.whole cc0_scratch3

variable (d : Dev nD) (L : grid0.Coords)

abbrev cL (L : grid0.Coords) : Fin τ.nSC := (L 0).castLE hcore0
abbrev sL (L : grid0.Coords) : Fin τ.nSub := (L 1).castLE hsub0
abbrev VT (d : Dev nD) (L : grid0.Coords) : Thread nD τ := V d (cL L) (sL L)

theorem bound_zero : grid0.bound 0 = 2 := rfl
theorem bound_one : grid0.bound 1 = 16 := rfl
/-- The number of the task at coordinates `L`. -/
abbrev kL (L : grid0.Coords) : Fin 32 := wid (Fin.cast bound_zero (L 0)) (Fin.cast bound_one (L 1))

/-- The task's row of the partial sums, squeezed, as the task addresses it. -/
abbrev orowK (L : grid0.Coords) : Rect S32x16 := Rect.unit (s := S32x16) (k0_off5 L) S1x16.size (k0_off5_inb L)
abbrev oRowK (L : grid0.Coords) : Memref sig .scVector .hbm S16 .f32 := ((oV).slice (orowK L) (fun _ => rfl)).squeeze S16 squeezes_S1x16_S16

theorem orowK_eq : orowK L = orow (kL L) := by
  unfold orowK orow Rect.part Rect.block
  congr 1 <;> funext a
  · rw [k0_off5_eq]
    match a with
    | 0 => simp [Shape.partIx, Shape.partSize]; rfl
    | 1 => simp [Shape.partIx, Shape.partSize]
  · match a with
    | 0 => simp [Shape.partSize]
    | 1 => simp [Shape.partSize]

theorem set_oRowK : (oRowK L).view.set = oRowSet (kL L) := by
  show (((oV).view.slice (orowK L)).reshape S16 squeezes_S1x16_S16.numel_eq).set = ((oV).view.slice (orow (kL L))).set
  rw [View.set_reshape]
  exact orowK_eq L ▸ rfl

theorem pts_oRowK (f : Buf (Elt F) (oLoc d)) :
    ((oRowK L).view.loc (VT d L) ↦[(oRowK L).view.set]{fullShare} f : sProp 𝕄) = oLoc d ↦[oRowSet (kL L)]{fullShare} f := by
  rw [set_oRowK]

/-- The five transfer semaphores a task names, as a family. -/
abbrev csem (k : Fin 5) : DmaSem sig := ⟨k.val, k.isLt⟩
abbrev dcell (d : Dev nD) (c : Fin τ.nSC) (i : Fin τ.nSub) (k : Fin 5) : GSem nD τ sig := (V d c i, .dma (csem k))
/-- The five at zero, as the task's instructions name them. -/
abbrev cells0 (d : Dev nD) (L : grid0.Coords) : sProp 𝕄 :=
  iprop(semVal (VT d L, SemLoc.dma cc0_scoped0.sem) 0 ∗ semVal (VT d L, SemLoc.dma cc0_scoped1.sem) 0 ∗ semVal (VT d L, SemLoc.dma cc0_scoped2.sem) 0
    ∗ semVal (VT d L, SemLoc.dma cc0_scoped3.sem) 0 ∗ semVal (VT d L, SemLoc.dma cc0_scoped4.sem) 0)

theorem dcell_mem (c : Fin τ.nSC) (i : Fin τ.nSub) (k : Fin 5) : dcell d c i k ∈ ownCells (V d c i) :=
  mem_ownCells.mpr ⟨rfl, (show ∀ s : DmaSem sig, (SemLoc.dma s : SemLoc sig).isScoped .scVector = true by decide) _⟩

/-- The subcore's own semaphores at zero: the five the task names, and the rest. -/
theorem ownSems0_V :
    (ownSems0 (VT d L) : sProp 𝕄)
      = iprop(cells0 d L ∗ bigSep (ownCells (VT d L) \ Finset.univ.image (dcell d (cL L) (sL L))) fun g => semVal g 0) := by
  unfold SparseCore.Cfg.ownSems0
  rw [SparseCore.bigSep_sdiff_split' (t := Finset.univ.image (dcell d (cL L) (sL L)))
      (Finset.image_subset_iff.mpr fun k _ => dcell_mem d (cL L) (sL L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 5)) = {0, 1, 2, 3, 4} by decide,
    SparseCore.bigSep_insert' (by decide), SparseCore.bigSep_insert' (by decide), SparseCore.bigSep_insert' (by decide),
    SparseCore.bigSep_insert' (by decide), bigSep_singleton]
  rfl

/-- A scratch buffer as a buffer of the device. -/
abbrev sRef (L : grid0.Coords) (b : Ref sig .scVector) : DevRef τ sig := (Proc.scVector (cL L) (sL L)).devRef b

/-- The subcore's own buffers at some contents: the task's four scratches, and the rest. -/
theorem ownBufs_V :
    (ownBufs (VT d L) : sProp 𝕄)
      = iprop((∃ f, (sV).view.loc (VT d L) ↦{fullShare} f) ∗ (∃ f, (aV).view.loc (VT d L) ↦{fullShare} f)
          ∗ (∃ f, (bV).view.loc (VT d L) ↦{fullShare} f) ∗ (∃ f, (tV).view.loc (VT d L) ↦{fullShare} f)
          ∗ bigSep (((((ownRefs (τ := τ) (.scVector (cL L) (sL L))).erase (sRef L cc0_scratch0)).erase (sRef L cc0_scratch1)).erase
              (sRef L cc0_scratch2)).erase (sRef L cc0_scratch3))
              fun b => iprop(∃ f, ((d, b) : Loc nD τ sig) ↦{fullShare} f)) := by
  have hn : ∀ b b' : Ref sig .scVector, b ≠ b' → sRef L b ≠ sRef L b' := fun b b' h e => h (Proc.devRef_injective _ e)
  unfold SparseCore.Cfg.ownBufs
  refine (SparseCore.bigSep_erase' (SparseCore.Cfg.mem_ownRefs_of_owner (p := Proc.scVector (cL L) (sL L))
    (b := sRef L cc0_scratch0) rfl)).trans ?_
  rw [SparseCore.bigSep_erase' (Finset.mem_erase.mpr ⟨hn cc0_scratch1 cc0_scratch0 (by decide),
      SparseCore.Cfg.mem_ownRefs_of_owner (p := Proc.scVector (cL L) (sL L)) (b := sRef L cc0_scratch1) rfl⟩),
    SparseCore.bigSep_erase' (Finset.mem_erase.mpr ⟨hn cc0_scratch2 cc0_scratch1 (by decide),
      Finset.mem_erase.mpr ⟨hn cc0_scratch2 cc0_scratch0 (by decide),
        SparseCore.Cfg.mem_ownRefs_of_owner (p := Proc.scVector (cL L) (sL L)) (b := sRef L cc0_scratch2) rfl⟩⟩),
    SparseCore.bigSep_erase' (Finset.mem_erase.mpr ⟨hn cc0_scratch3 cc0_scratch2 (by decide),
      Finset.mem_erase.mpr ⟨hn cc0_scratch3 cc0_scratch1 (by decide),
        Finset.mem_erase.mpr ⟨hn cc0_scratch3 cc0_scratch0 (by decide),
          SparseCore.Cfg.mem_ownRefs_of_owner (p := Proc.scVector (cL L) (sL L)) (b := sRef L cc0_scratch3) rfl⟩⟩⟩)]

end Cert.KernelIdeal.Sc

end
-- ==== Proof.Ideal.Fetch.lean ====
/-
  The first part of a task: it fetches the start of each index array into a scratch and reads the first word.
-/
module

public import proofs.«01_k».proof.Proof.Ideal.Spell

@[expose] public section

noncomputable section

namespace Cert.KernelIdeal.Sc

open Cert.KernelIdeal Cert.KernelIdeal.Gen Cert.KernelIdeal.Words
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

omit [FloatOps F] in
/-- The word the first read takes out of the scratch is the first of the words fetched into it. -/
theorem word1 (fs : Buf (Elt F) ((sV).view.loc (VT d L))) (p : S16.Idx → Elt F .i32) :
    extractAt ![0] (k0_pay2 (F := F) (View.readAt (Elt F) (sV).view (Rect.unit (s := S16) ![0] S16.size inb_S16_S16_0).toLoadRect
      (View.write (Elt F) (sV).view fs p Finset.univ))) inpos_S1_p0 = p (ix1 ⟨0, by decide⟩) := by
  rw [show View.write (Elt F) (sV).view fs p Finset.univ = p from View.write_whole_univ _ _ _]
  unfold extractAt k0_pay2 extractStridedSlice shapeCast
  show p _ = p _
  congr 1; funext a; apply Fin.ext
  match a with
  | 0 => simp; rfl

omit [FloatOps F] in
/-- The second read's likewise. -/
theorem word2 (fs : Buf (Elt F) ((sV).view.loc (VT d L))) (p : S16.Idx → Elt F .i32) :
    extractAt ![0] (k0_pay3 (F := F) (View.readAt (Elt F) (sV).view (Rect.unit (s := S16) ![0] S16.size inb_S16_S16_0).toLoadRect
      (View.write (Elt F) (sV).view fs p Finset.univ))) inpos_S1_p0 = p (ix1 ⟨0, by decide⟩) := word1 d L fs p

omit [FloatOps F] in
/-- The words fetched are an index array's first sixteen. -/
theorem fetched1 (f : Buf (Elt F) (iLoc d)) (h) :
    View.read (Elt F) ((iV).slice (Rect.unit (s := S128) ![0] S16.size inb_S128_S16_0) h).view f (ix1 ⟨0, by decide⟩) = firstWord (F := F) f := by
  show f _ = f _
  congr 1; funext a; apply Fin.ext
  match a with
  | 0 => rfl

omit [FloatOps F] in
theorem fetched2 (f : Buf (Elt F) (jLoc d)) (h) :
    View.read (Elt F) ((jV).slice (Rect.unit (s := S128) ![0] S16.size inb_S128_S16_0) h).view f (ix1 ⟨0, by decide⟩) = firstWord (F := F) f := by
  show f _ = f _
  congr 1; funext a; apply Fin.ext
  match a with
  | 0 => rfl

set_option maxHeartbeats 4000000 in
/-- The two fetches and the two words: what the part hands on are the two arrays' first words, and everything else comes
    back as it was, the scratch at some contents. -/
theorem fetch_run (hpre : PreOK m) (q : PosShare TreeShare) (O : CellTallies nD τ sig (HIx 1)) (W : Waits sig (HIx 1))
    (fs : Buf (Elt F) ((sV).view.loc (VT d L))) :
    (iprop(Transfers.MayWaits (VT d L) (default : HIx 1) O
        ∗ ((iV).view.loc (VT d L) ↦{q} m (iLoc d)) ∗ ((jV).view.loc (VT d L) ↦{q} m (jLoc d))
        ∗ ((sV).view.loc (VT d L) ↦{fullShare} fs)
        ∗ semVal (VT d L, SemLoc.dma cc0_scoped0.sem) 0 ∗ semVal (VT d L, SemLoc.dma cc0_scoped1.sem) 0
        ∗ owes (VT d L) O W) : sProp 𝕄)
      ⊢ wp frame (wpE (defs₀ (F := F)) 𝒱₀ (VT d L) none) Set.univ
          (k0_part2 L xV (Memref.isWhole_whole _) iV (Memref.isWhole_whole _) jV (Memref.isWhole_whole _) oV (Memref.isWhole_whole _)
            sV (Memref.isWhole_whole _) aV (Memref.isWhole_whole _) bV (Memref.isWhole_whole _) tV (Memref.isWhole_whole _)
            cc0_scoped0 cc0_scoped1 cc0_scoped2 cc0_scoped3 cc0_scoped4)
          fun r => iprop(⌜r.2.1 = wI m d ∧ r.2.2.2.1 = wJ m d⌝
            ∗ ((iV).view.loc (VT d L) ↦{q} m (iLoc d)) ∗ ((jV).view.loc (VT d L) ↦{q} m (jLoc d))
            ∗ (∃ f, (sV).view.loc (VT d L) ↦{fullShare} f)
            ∗ semVal (VT d L, SemLoc.dma cc0_scoped0.sem) 0 ∗ semVal (VT d L, SemLoc.dma cc0_scoped1.sem) 0
            ∗ ∃ W', ⌜∀ p ∈ W', p ∈ W ∨ p.2 = none⌝ ∗ owes (VT d L) O W') := by
  rw [k0_part2_eq_skeleton]; unfold k0_part2_skel
  iintro ⟨#Hmw, Hi, Hj, Hs, Hc0, Hc1, HO⟩
  sl_exec
  have hv6 : fetch_run.sl.v6 m d L fs = wI m d := by
    unfold fetch_run.sl.v6 fetch_run.sl.dma0
    exact (word1 d L _ _).trans (fetched1 d _ _)
  have hk1 : k0_chk1 L (fetch_run.sl.v6 m d L fs) := hv6 ▸ chk1_of_le L _ (hpre d).1
  sl_exec
  have hv10 : fetch_run.sl.v10 m d L fs = wJ m d := by
    unfold fetch_run.sl.v10 fetch_run.sl.dma0_1
    exact (word2 d L _ _).trans (fetched2 d _ _)
  have hk2 : k0_chk2 L (fetch_run.sl.v10 m d L fs) := hv10 ▸ chk2_of_le L _ (hpre d).2
  sl_exec
  sl_step
  isplitr
  · ipureintro; exact ⟨hv6, hv10⟩
  isplitl [Hi]; · iexact Hi
  isplitl [Hj]; · iexact Hj
  isplitl [Hs]; · iexists _; iexact Hs
  isplitl [Hc0]; · iexact Hc0
  isplitl [Hc1]; · iexact Hc1
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.KernelIdeal.Sc

end
-- ==== Proof.Ideal.Row.lean ====
/-
  One row of the inner loop: sixteen loads, eight products added to the running sums.
-/
module

public import proofs.«01_k».proof.Proof.Ideal.Spell

@[expose] public section

noncomputable section

namespace Cert.KernelIdeal.Sc

open Cert.KernelIdeal Cert.KernelIdeal.Gen Cert.KernelIdeal.Words
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- What a scratch holds once a block of the table is copied into it: the block from row `r0` and column `c0` on. -/
abbrev Block (X : Vec F S16384x1000 .f32) (r0 c0 : Nat) (f : Vec F S256x136 .f32) : Prop :=
  ∀ (i : Fin 256) (j : Fin 136), f (ix2 i j) = cell X (r0 + i.val) (c0 + j.val)

omit [FloatOps F] in
/-- Sixteen entries loaded from a scratch row at offsets `off` are a piece of the table's row. -/
theorem piece_of (X : Vec F S16384x1000 .f32) (r0 c0 : Nat) (f : Vec F S256x136 .f32) (hf : Block X r0 c0 f)
    (off : Fin 2 → Nat) (inb : ∀ a, off a + S1x16.size a ≤ S256x136.size a) (r c : Nat) (h0 : r = r0 + off 0) (h1 : c = c0 + off 1) :
    (fun x => f ((Rect.unit (s := S256x136) off S1x16.size inb).idx x)) = seg X r c := by
  funext x
  have hx0 : (x 0).val = 0 := by have := (x 0).isLt; simp at this; omega
  have e := hf ⟨off 0, by have := inb 0; simp at this; omega⟩ ⟨off 1 + (x 1).val, by have := inb 1; have := (x 1).isLt; simp at *; omega⟩
  subst h0 h1
  unfold seg
  rw [Nat.add_assoc, ← e]
  congr 1; funext a; apply Fin.ext
  match a with
  | 0 => show off 0 + 1 * (x 0).val = off 0; omega
  | 1 => show off 1 + 1 * (x 1).val = off 1 + (x 1).val; omega

omit [FloatOps F] in
/-- A load from the first scratch. -/
theorem load1 (X : Vec F S16384x1000 .f32) (r0 : Nat) (w : BitVec 32) (hw : w.toNat ≤ 871) (f : Buf (Elt F) ((aV).view.loc (VT d L)))
    (hf : Block X r0 (w.toNat / 8 * 8) f) (t : Fin k0_t2_loop.trips) (g c : Nat) (hc : c ≤ 112) (hg : 16 * g = c) (inb) :
    View.readAt (Elt F) (aV).view (Rect.unit (s := S256x136) (k0_off3 w t (BitVec.ofNat 32 c)) S1x16.size inb).toLoadRect f
      = seg X (r0 + t.val) (w.toNat + 16 * g) :=
  piece_of X r0 _ f hf _ inb _ _ (by rw [off3_eq w hw t c hc]; rfl) (by rw [off3_eq w hw t c hc, hg]; show _ = _ + (w.toNat % 8 + c); omega)

omit [FloatOps F] in
/-- A load from the second scratch. -/
theorem load2 (X : Vec F S16384x1000 .f32) (r0 : Nat) (w : BitVec 32) (hw : w.toNat ≤ 871) (f : Buf (Elt F) ((bV).view.loc (VT d L)))
    (hf : Block X r0 (w.toNat / 8 * 8) f) (t : Fin k0_t2_loop.trips) (g c : Nat) (hc : c ≤ 112) (hg : 16 * g = c) (inb) :
    View.readAt (Elt F) (bV).view (Rect.unit (s := S256x136) (k0_off4 w t (BitVec.ofNat 32 c)) S1x16.size inb).toLoadRect f
      = seg X (r0 + t.val) (w.toNat + 16 * g) :=
  piece_of X r0 _ f hf _ inb _ _ (by rw [off4_eq w hw t c hc]; rfl) (by rw [off4_eq w hw t c hc, hg]; show _ = _ + (w.toNat % 8 + c); omega)

set_option maxHeartbeats 4000000 in
/-- A row: from the two blocks in the scratches, the running sums become `rowStep` of them. -/
theorem row_run (X : Vec F S16384x1000 .f32) (r0 : Nat) (v2 w1 w2 v11 v49 v50 : BitVec 32) (v25 : BitVec 1)
    (hw1 : k0_chk1 L w1) (hw2 : k0_chk2 L w2) (h1 : w1.toNat ≤ 871) (h2 : w2.toNat ≤ 871)
    (fa : Buf (Elt F) ((aV).view.loc (VT d L))) (fb : Buf (Elt F) ((bV).view.loc (VT d L)))
    (ha : Block X r0 (w1.toNat / 8 * 8) fa) (hb : Block X r0 (w2.toNat / 8 * 8) fb) (t : Fin k0_t2_loop.trips) (acc : FVec F S16 .f32) :
    (iprop(((aV).view.loc (VT d L) ↦{fullShare} fa) ∗ ((bV).view.loc (VT d L) ↦{fullShare} fb)) : sProp 𝕄)
      ⊢ wp frame (wpE (defs₀ (F := F)) 𝒱₀ (VT d L) none) Set.univ
          (k0_t2_body L xV (Memref.isWhole_whole _) iV (Memref.isWhole_whole _) jV (Memref.isWhole_whole _) oV (Memref.isWhole_whole _)
            sV (Memref.isWhole_whole _) aV (Memref.isWhole_whole _) bV (Memref.isWhole_whole _) tV (Memref.isWhole_whole _)
            cc0_scoped0 cc0_scoped1 cc0_scoped2 cc0_scoped3 cc0_scoped4 v2 w1 hw1 w2 hw2 v11 v25 v49 v50 t acc)
          fun r => iprop(⌜r = rowStep X w1.toNat w2.toNat (r0 + t.val) acc⌝
            ∗ ((aV).view.loc (VT d L) ↦{fullShare} fa) ∗ ((bV).view.loc (VT d L) ↦{fullShare} fb)) := by
  unfold k0_t2_body
  rw [k0_part1_eq_skeleton]; unfold k0_part1_skel
  iintro ⟨Ha, Hb⟩
  sl_exec
  sl_step
  isplitr
  · ipureintro
    unfold rowStep
    rw [load1 d L X r0 w1 h1 fa ha t 0 0 (by decide) rfl, load2 d L X r0 w2 h2 fb hb t 0 0 (by decide) rfl, load1 d L X r0 w1 h1 fa ha t 1 16 (by decide) rfl, load2 d L X r0 w2 h2 fb hb t 1 16 (by decide) rfl, load1 d L X r0 w1 h1 fa ha t 2 32 (by decide) rfl, load2 d L X r0 w2 h2 fb hb t 2 32 (by decide) rfl, load1 d L X r0 w1 h1 fa ha t 3 48 (by decide) rfl, load2 d L X r0 w2 h2 fb hb t 3 48 (by decide) rfl, load1 d L X r0 w1 h1 fa ha t 4 64 (by decide) rfl, load2 d L X r0 w2 h2 fb hb t 4 64 (by decide) rfl, load1 d L X r0 w1 h1 fa ha t 5 80 (by decide) rfl, load2 d L X r0 w2 h2 fb hb t 5 80 (by decide) rfl, load1 d L X r0 w1 h1 fa ha t 6 96 (by decide) rfl, load2 d L X r0 w2 h2 fb hb t 6 96 (by decide) rfl, load1 d L X r0 w1 h1 fa ha t 7 112 (by decide) rfl, load2 d L X r0 w2 h2 fb hb t 7 112 (by decide) rfl]
  isplitl [Ha] <;> iassumption

end Cert.KernelIdeal.Sc

end
-- ==== Proof.Ideal.Chunk.lean ====
/-
  One chunk of a task: two blocks of the table copied into the scratches, and their 256 rows.
-/
module

public import proofs.«01_k».proof.Proof.Ideal.Row

@[expose] public section

noncomputable section

namespace Cert.KernelIdeal.Sc

open Cert.KernelIdeal Cert.KernelIdeal.Gen Cert.KernelIdeal.Words
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The first row of the task at `L`. -/
abbrev row0 (L : grid0.Coords) : Nat := 512 * (kL L).val

omit [FloatOps F] in
/-- What a copy out of the table lands: the block at the copy's offsets. -/
theorem block_of (X : Buf (Elt F) (xLoc d)) (off : Fin 2 → Nat) (inb : ∀ a, off a + S256x136.size a ≤ S16384x1000.size a) (h)
    (r c : Nat) (h0 : off 0 = r) (h1 : off 1 = c) :
    Block X r c (View.read (Elt F) ((xV).slice (Rect.unit (s := S16384x1000) off S256x136.size inb) h).view X) := by
  intro i j
  subst h0 h1
  have i0 := inb 0; have i1 := inb 1
  simp at i0 i1
  show X _ = X _
  congr 1; funext a; apply Fin.ext
  match a with
  | 0 => show off 0 + 1 * i.val = (off 0 + i.val) % 16384; have := i.isLt; rw [Nat.mod_eq_of_lt (by omega)]; omega
  | 1 => show off 1 + 1 * j.val = (off 1 + j.val) % 1000; have := j.isLt; rw [Nat.mod_eq_of_lt (by omega)]; omega

omit [FloatOps F] in
theorem block1 (X : Buf (Elt F) (xLoc d)) (w : BitVec 32) (hw : w.toNat ≤ 871) (t : Fin k0_t1_loop.trips) (inb) (h)
    (fa : Buf (Elt F) ((aV).view.loc (VT d L))) :
    Block X (row0 L + 256 * t.val) (w.toNat / 8 * 8) (View.write (Elt F) (aV).view fa
      (View.read (Elt F) ((xV).slice (Rect.unit (s := S16384x1000) (k0_off1 L w t) S256x136.size inb) h).view X) Finset.univ) := by
  rw [show ∀ p, View.write (Elt F) (aV).view fa p Finset.univ = p from fun p => View.write_whole_univ _ _ _]
  exact block_of d X _ inb h _ _ (by rw [off1_eq L w hw t]; rfl) (by rw [off1_eq L w hw t]; rfl)

omit [FloatOps F] in
theorem block2 (X : Buf (Elt F) (xLoc d)) (w : BitVec 32) (hw : w.toNat ≤ 871) (t : Fin k0_t1_loop.trips) (inb) (h)
    (fb : Buf (Elt F) ((bV).view.loc (VT d L))) :
    Block X (row0 L + 256 * t.val) (w.toNat / 8 * 8) (View.write (Elt F) (bV).view fb
      (View.read (Elt F) ((xV).slice (Rect.unit (s := S16384x1000) (k0_off2 L w t) S256x136.size inb) h).view X) Finset.univ) := by
  rw [show ∀ p, View.write (Elt F) (bV).view fb p Finset.univ = p from fun p => View.write_whole_univ _ _ _]
  exact block_of d X _ inb h _ _ (by rw [off2_eq L w hw t]; rfl) (by rw [off2_eq L w hw t]; rfl)

/-- The inner loop's invariant: the running sums are those after the chunk's first `k` rows, the scratches as copied. -/
def rowInv (X : Vec F S16384x1000 .f32) (b1 b2 r0 n0 : Nat) (fa : Buf (Elt F) ((aV).view.loc (VT d L))) (fb : Buf (Elt F) ((bV).view.loc (VT d L)))
    (k : Nat) (acc : FVec F S16 .f32) : sProp 𝕄 :=
  iprop(⌜acc = accAt X b1 b2 r0 (n0 + k)⌝ ∗ ((aV).view.loc (VT d L) ↦{fullShare} fa) ∗ ((bV).view.loc (VT d L) ↦{fullShare} fb))

set_option maxHeartbeats 4000000 in
/-- A chunk: from the running sums after the earlier chunks' rows, those after this chunk's too. -/
theorem chunk_run (q : PosShare TreeShare) (O : CellTallies nD τ sig (HIx 1)) (W : Waits sig (HIx 1))
    (v2 w1 w2 v11 v49 v50 : BitVec 32) (v25 : BitVec 1) (hw1 : k0_chk1 L w1) (hw2 : k0_chk2 L w2) (h1 : w1.toNat ≤ 871) (h2 : w2.toNat ≤ 871)
    (fa : Buf (Elt F) ((aV).view.loc (VT d L))) (fb : Buf (Elt F) ((bV).view.loc (VT d L))) (t : Fin k0_t1_loop.trips) (acc : FVec F S16 .f32)
    (hacc : acc = accAt (F := F) (m (xLoc d)) w1.toNat w2.toNat (row0 L) (256 * t.val)) :
    (iprop(Transfers.MayWaits (VT d L) (default : HIx 1) O
        ∗ ((xV).view.loc (VT d L) ↦{q} m (xLoc d))
        ∗ ((aV).view.loc (VT d L) ↦{fullShare} fa) ∗ ((bV).view.loc (VT d L) ↦{fullShare} fb)
        ∗ semVal (VT d L, SemLoc.dma cc0_scoped2.sem) 0 ∗ semVal (VT d L, SemLoc.dma cc0_scoped3.sem) 0
        ∗ owes (VT d L) O W) : sProp 𝕄)
      ⊢ wp frame (wpE (defs₀ (F := F)) 𝒱₀ (VT d L) none) Set.univ
          (k0_t1_body L xV (Memref.isWhole_whole _) iV (Memref.isWhole_whole _) jV (Memref.isWhole_whole _) oV (Memref.isWhole_whole _)
            sV (Memref.isWhole_whole _) aV (Memref.isWhole_whole _) bV (Memref.isWhole_whole _) tV (Memref.isWhole_whole _)
            cc0_scoped0 cc0_scoped1 cc0_scoped2 cc0_scoped3 cc0_scoped4 v2 w1 hw1 w2 hw2 v11 v25 v49 v50 t acc)
          fun r => iprop(⌜r = accAt (F := F) (m (xLoc d)) w1.toNat w2.toNat (row0 L) (256 * (t.val + 1))⌝
            ∗ ((xV).view.loc (VT d L) ↦{q} m (xLoc d))
            ∗ (∃ f, (aV).view.loc (VT d L) ↦{fullShare} f) ∗ (∃ f, (bV).view.loc (VT d L) ↦{fullShare} f)
            ∗ semVal (VT d L, SemLoc.dma cc0_scoped2.sem) 0 ∗ semVal (VT d L, SemLoc.dma cc0_scoped3.sem) 0
            ∗ ∃ W', ⌜∀ p ∈ W', p ∈ W ∨ p.2 = none⌝ ∗ owes (VT d L) O W') := by
  unfold k0_t1_body
  iintro ⟨#Hmw, Hx, Ha, Hb, Hc2, Hc3, HO⟩
  sl_exec (disch := exact View.amount_pos _ _ (show 0 < S256x136.numel by decide))
  have hba : Block (F := F) (m (xLoc d)) (row0 L + 256 * t.val) (w1.toNat / 8 * 8)
      (View.write (Elt F) (aV).view fa (chunk_run.sl.dma0 m d L w1 hw1 t) Finset.univ) := by
    unfold chunk_run.sl.dma0; exact block1 d L _ w1 h1 t _ _ fa
  have hbb : Block (F := F) (m (xLoc d)) (row0 L + 256 * t.val) (w2.toNat / 8 * 8)
      (View.write (Elt F) (bV).view fb (chunk_run.sl.dma0_1 m d L w2 hw2 t) Finset.univ) := by
    unfold chunk_run.sl.dma0_1; exact block2 d L _ w2 h2 t _ _ fb
  generalize View.write (Elt F) (aV).view fa (chunk_run.sl.dma0 m d L w1 hw1 t) Finset.univ = ga at hba ⊢
  generalize View.write (Elt F) (bV).view fb (chunk_run.sl.dma0_1 m d L w2 hw2 t) Finset.univ = gb at hbb ⊢
  sl_for (rowInv (F := F) d L (m (xLoc d)) w1.toNat w2.toNat (row0 L) (256 * t.val) ga gb) $$ [Ha Hb]
  case region =>
    intro k acc'
    unfold rowInv
    iintro ⟨%he, Ha, Hb⟩
    subst he
    iapply (wp_wand_r Idealize.ShloMosaic.frame (wpE (defs₀ (F := F)) 𝒱₀ (VT d L) none) Set.univ)
    isplitl [Ha Hb]
    · iapply (row_run d L (m (xLoc d)) (row0 L + 256 * t.val) v2 w1 w2 v11 v49 v50 v25 hw1 hw2 h1 h2 ga gb hba hbb k _)
      isplitl [Ha] <;> iassumption
    iintro %r ⟨%hr, Ha, Hb⟩
    isplitr
    · ipureintro; rw [hr, Nat.add_assoc (row0 L)]; rfl
    isplitl [Ha] <;> iassumption
  · unfold rowInv
    isplitr
    · ipureintro; exact hacc
    isplitl [Ha] <;> iassumption
  iintro %r HI
  unfold rowInv
  icases HI with ⟨%hr, Ha, Hb⟩
  sl_exec
  sl_step
  isplitr
  · ipureintro
    exact hr.trans (congrArg _ (by rw [show Scf.trips k0_t2_loop.lb k0_t2_loop.ub k0_t2_loop.st = 256 from trips2]; omega))
  isplitl [Hx]; · iexact Hx
  isplitl [Ha]; · iexists _; iexact Ha
  isplitl [Hb]; · iexists _; iexact Hb
  isplitl [Hc2]; · iexact Hc2
  isplitl [Hc3]; · iexact Hc3
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact .inl hp

end Cert.KernelIdeal.Sc

end
-- ==== Proof.Ideal.Tile.lean ====
/-
  A task from beginning to end.
-/
module

public import proofs.«01_k».proof.Proof.Ideal.Fetch
public import proofs.«01_k».proof.Proof.Ideal.Chunk
public import Idealize.ShloMosaic.Lib.WritesUnit

@[expose] public section

noncomputable section

namespace Cert.KernelIdeal.Sc

open Cert.KernelIdeal Cert.KernelIdeal.Gen Cert.KernelIdeal.Words
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (d : Dev nD) (L : grid0.Coords)

/-- The outer loop's invariant: the running sums are those after the first `k` chunks' rows; the scratches hold anything. -/
def chunkInv (q : PosShare TreeShare) (O : CellTallies nD τ sig (HIx 1)) (W : Waits sig (HIx 1)) (k : Nat) (acc : FVec F S16 .f32) : sProp 𝕄 :=
  iprop(Transfers.MayWaits (VT d L) (default : HIx 1) O
    ∗ ⌜acc = accAt (F := F) (m (xLoc d)) (wI m d).toNat (wJ m d).toNat (row0 L) (256 * k)⌝
    ∗ ((xV).view.loc (VT d L) ↦{q} m (xLoc d))
    ∗ (∃ f, (aV).view.loc (VT d L) ↦{fullShare} f) ∗ (∃ f, (bV).view.loc (VT d L) ↦{fullShare} f)
    ∗ semVal (VT d L, SemLoc.dma cc0_scoped2.sem) 0 ∗ semVal (VT d L, SemLoc.dma cc0_scoped3.sem) 0
    ∗ ∃ W', ⌜∀ p ∈ W', p ∈ W ∨ p.2 = none⌝ ∗ owes (VT d L) O W')

/-- The task's row, written with what it stores, is that row of the partial sums. -/
theorem row_ends : ∀ x ∈ (oRowK L).view.set, (oRowK L).view.writes (Elt F) (m (oLoc d))
      [⟨Rect.whole S16, taskVec (F := F) (m (xLoc d)) (wI m d).toNat (wJ m d).toNat (kL L).val⟩] x = outF m d x := by
  intro x hx
  obtain ⟨y, -, rfl⟩ := Finset.mem_map.mp hx
  have e : View.read (Elt F) (oRowK L).view ((oRowK L).view.writes (Elt F) (m (oLoc d))
      [⟨Rect.whole S16, taskVec (F := F) (m (xLoc d)) (wI m d).toNat (wJ m d).toNat (kL L).val⟩]) y
      = taskVec (F := F) (m (xLoc d)) (wI m d).toNat (wJ m d).toNat (kL L).val y := by
    rw [View.read_writes_whole]
  have e0 : (((oRowK L).view.emb y) 0).val = (kL L).val := by
    show ((orowK L).emb (Shape.reshapeEquiv _ y) 0).val = _
    rw [Shape.reshapeEquiv_cons_one]
    simp [k0_off5_eq]
    rfl
  have e1 : (((oRowK L).view.emb y) 1).val = (y 0).val := by
    show ((orowK L).emb (Shape.reshapeEquiv _ y) 1).val = _
    rw [Shape.reshapeEquiv_cons_one]
    simp [k0_off5_eq]
    rfl
  refine (show _ = _ from e).trans ?_
  show _ = taskVec (F := F) (m (xLoc d)) (wI m d).toNat (wJ m d).toNat (((oRowK L).view.emb y) 0).val (ix1 (((oRowK L).view.emb y) 1))
  rw [e0]
  congr 1
  funext a
  match a with
  | 0 => exact Fin.ext e1.symm

set_option maxHeartbeats 4000000 in
/-- The task, over its memory as its instructions address it: its row ends at its scaled running sums. -/
theorem tile_run (hpre : PreOK m) (q : PosShare TreeShare) (O : CellTallies nD τ sig (HIx 1)) (W : Waits sig (HIx 1))
    (fs : Buf (Elt F) ((sV).view.loc (VT d L))) (fa : Buf (Elt F) ((aV).view.loc (VT d L)))
    (fb : Buf (Elt F) ((bV).view.loc (VT d L))) (ft : Buf (Elt F) ((tV).view.loc (VT d L))) :
    (iprop(Transfers.MayWaits (VT d L) (default : HIx 1) O
        ∗ ((xV).view.loc (VT d L) ↦{q} m (xLoc d)) ∗ ((iV).view.loc (VT d L) ↦{q} m (iLoc d)) ∗ ((jV).view.loc (VT d L) ↦{q} m (jLoc d))
        ∗ ((oRowK L).view.loc (VT d L) ↦[(oRowK L).view.set]{fullShare} m (oLoc d))
        ∗ ((sV).view.loc (VT d L) ↦{fullShare} fs) ∗ ((aV).view.loc (VT d L) ↦{fullShare} fa)
        ∗ ((bV).view.loc (VT d L) ↦{fullShare} fb) ∗ ((tV).view.loc (VT d L) ↦{fullShare} ft)
        ∗ cells0 d L ∗ owes (VT d L) O W) : sProp 𝕄)
      ⊢ wp frame (wpE (defs₀ (F := F)) 𝒱₀ (VT d L) none) Set.univ
          (cc0__body L xV (Memref.isWhole_whole _) iV (Memref.isWhole_whole _) jV (Memref.isWhole_whole _) oV (Memref.isWhole_whole _)
            sV (Memref.isWhole_whole _) aV (Memref.isWhole_whole _) bV (Memref.isWhole_whole _) tV (Memref.isWhole_whole _)
            cc0_scoped0 cc0_scoped1 cc0_scoped2 cc0_scoped3 cc0_scoped4)
          fun _ => iprop(((xV).view.loc (VT d L) ↦{q} m (xLoc d)) ∗ ((iV).view.loc (VT d L) ↦{q} m (iLoc d)) ∗ ((jV).view.loc (VT d L) ↦{q} m (jLoc d))
            ∗ ((oRowK L).view.loc (VT d L) ↦[(oRowK L).view.set]{fullShare} outF m d)
            ∗ (∃ f, (sV).view.loc (VT d L) ↦{fullShare} f) ∗ (∃ f, (aV).view.loc (VT d L) ↦{fullShare} f)
            ∗ (∃ f, (bV).view.loc (VT d L) ↦{fullShare} f) ∗ (∃ f, (tV).view.loc (VT d L) ↦{fullShare} f)
            ∗ cells0 d L ∗ ∃ W', ⌜∀ p ∈ W', p ∈ W ∨ p.2 = none⌝ ∗ owes (VT d L) O W') := by
  rw [cc0__body_eq_skeleton]; unfold cc0__body_skel
  rw [wp_bind]
  iintro ⟨#Hmw, Hx, Hi, Hj, Ho, Hs, Ha, Hb, Ht, ⟨Hc0, Hc1, Hc2, Hc3, Hc4⟩, HO⟩
  iapply (wp_wand_r Idealize.ShloMosaic.frame (wpE (defs₀ (F := F)) 𝒱₀ (VT d L) none) Set.univ)
  isplitl [Hi Hj Hs Hc0 Hc1 HO]
  · iapply (fetch_run m d L hpre q O W fs)
    isplitr; · iexact Hmw
    isplitl [Hi]; · iexact Hi
    isplitl [Hj]; · iexact Hj
    isplitl [Hs]; · iexact Hs
    isplitl [Hc0]; · iexact Hc0
    isplitl [Hc1]; · iexact Hc1
    iexact HO
  iintro %r ⟨%hr, Hi, Hj, Hs, Hc0, Hc1, %W1, %hW1, HO⟩
  obtain ⟨v2, v6, hw1, v10, hw2, v11, v25⟩ := r
  obtain ⟨h6, h10⟩ := hr
  change v6 = _ at h6
  change v10 = _ at h10
  subst h6 h10
  rw [k0_part3_eq_skeleton]; unfold k0_part3_skel
  sl_exec
  rw [wp_bind]
  sl_for (chunkInv (F := F) m d L q O W) $$ [Hx Ha Hb Hc2 Hc3 HO]
  case region =>
    intro k acc
    unfold chunkInv
    iintro ⟨#Hmw, %he, Hx, ⟨%ga, Ha⟩, ⟨%gb, Hb⟩, Hc2, Hc3, %W2, %hW2, HO⟩
    iapply (wp_wand_r Idealize.ShloMosaic.frame (wpE (defs₀ (F := F)) 𝒱₀ (VT d L) none) Set.univ)
    isplitl [Hx Ha Hb Hc2 Hc3 HO]
    · iapply (chunk_run m d L q O W2 v2 (wI m d) (wJ m d) v11 _ _ v25 hw1 hw2 (hpre d).1 (hpre d).2 ga gb k acc he)
      isplitr; · iexact Hmw
      isplitl [Hx]; · iexact Hx
      isplitl [Ha]; · iexact Ha
      isplitl [Hb]; · iexact Hb
      isplitl [Hc2]; · iexact Hc2
      isplitl [Hc3]; · iexact Hc3
      iexact HO
    iintro %r ⟨%hr, Hx, Ha, Hb, Hc2, Hc3, %W3, %hW3, HO⟩
    isplitr; · iexact Hmw
    isplitr
    · ipureintro; exact hr
    isplitl [Hx]; · iexact Hx
    isplitl [Ha]; · iexact Ha
    isplitl [Hb]; · iexact Hb
    isplitl [Hc2]; · iexact Hc2
    isplitl [Hc3]; · iexact Hc3
    iexists W3; isplitr
    · ipureintro; exact fun p hp => (hW3 p hp).elim (hW2 p) .inr
    iexact HO
  · unfold chunkInv
    isplitr; · iexact Hmw
    isplitr
    · ipureintro; rfl
    isplitl [Hx]; · iexact Hx
    isplitl [Ha]; · iexists _; iexact Ha
    isplitl [Hb]; · iexists _; iexact Hb
    isplitl [Hc2]; · iexact Hc2
    isplitl [Hc3]; · iexact Hc3
    iexists W1; isplitr
    · ipureintro; exact hW1
    iexact HO
  iintro %acc HI
  unfold chunkInv
  icases HI with ⟨-, %he, Hx, Ha, Hb, Hc2, Hc3, %W2, %hW2, HO⟩
  have he' : acc = accAt (F := F) (m (xLoc d)) (wI m d).toNat (wJ m d).toNat (row0 L) 512 :=
    he.trans (congrArg _ (by rw [show Scf.trips k0_t1_loop.lb k0_t1_loop.ub k0_t1_loop.st = 2 from trips1]))
  clear he
  subst he'
  sl_exec
  sl_step
  have hp : tile_run.sl.dma2 m d L ft = taskVec (F := F) (m (xLoc d)) (wI m d).toNat (wJ m d).toNat (kL L).val := by
    unfold tile_run.sl.dma2 tile_run.sl.Ht_1
    funext y
    show View.read (Elt F) (tV).view _ y = _
    exact View.read_writes_cons_unit_of_mem _ _ _ _ _ y y (off' := ![0]) rfl
      fun a => by match a with | 0 => show _ = 0 + _; rw [Nat.zero_add]
  isplitl [Hx]; · iexact Hx
  isplitl [Hi]; · iexact Hi
  isplitl [Hj]; · iexact Hj
  isplitl [Ho]
  · rw [hp]
    iapply (Entails.of_eq (pointsTo_congr (row_ends m d L)))
    iexact Ho
  isplitl [Hs]; · iexact Hs
  isplitl [Ha]; · iexact Ha
  isplitl [Hb]; · iexact Hb
  isplitl [Ht]; · iexists _; iexact Ht
  isplitl [Hc0 Hc1 Hc2 Hc3 Hc4]
  · isplitl [Hc0]; · iexact Hc0
    isplitl [Hc1]; · iexact Hc1
    isplitl [Hc2]; · iexact Hc2
    isplitl [Hc3]; · iexact Hc3
    iexact Hc4
  iexists _; isplitr
  swap; · iexact HO
  ipureintro; intro p hp
  rcases Finset.mem_insert.mp hp with hp | hp; · exact .inr (hp ▸ rfl)
  exact hW2 p hp

end Cert.KernelIdeal.Sc

end
-- ==== Proof.Ideal.Launch.lean ====
/-
  The launch: what one vector subcore owes, the TensorCore's two host operations after the call, and the program's run with
  its one result named.
-/
module

public import proofs.«01_k».proof.Proof.Ideal.Tile
public import proofs.«01_k».proof.Proof.Gen.Pre_consecutive_columns
public import Idealize.ShloMosaic.Adequacy
public import Idealize.ShloMosaic.Init

@[expose] public section

noncomputable section

namespace Cert.KernelIdeal.Sc

open Cert.KernelIdeal Cert.KernelIdeal.Gen Cert.KernelIdeal.Words
open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## One vector subcore -/

/-- The coordinates of the task on subcore `s` of SparseCore `c`. -/
abbrev coordsV (c : Fin (grid0.bound 0)) (s : Fin (grid0.bound 1)) : grid0.Coords
  | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__body (coordsV c s) xV (Memref.isWhole_whole _) iV (Memref.isWhole_whole _)
          jV (Memref.isWhole_whole _) oV (Memref.isWhole_whole _) sV (Memref.isWhole_whole _) aV (Memref.isWhole_whole _)
          bV (Memref.isWhole_whole _) tV (Memref.isWhole_whole _) cc0_scoped0 cc0_scoped1 cc0_scoped2 cc0_scoped3 cc0_scoped4) ⟨⟩ c s := rfl

/-- A task, from what its subcore is handed and owns to what it brings back and owns then. -/
theorem tile_body (d : Dev nD) (L : grid0.Coords) (hF : (K (F := F)).Facts) (hpre : PreOK m)
    (O : CellTallies nD τ sig (HIx 1)) (W : Waits sig (HIx 1)) (hO : ∀ g, O g none = 0) :
    iprop(levAts (K (F := F)).L (K (F := F)).lev ∗ emp ∗ taskRes m d (kL L) (m (oLoc d)) ∗ scopedBufs (VT d L) ∗ scopedSems0 (VT d L) ∗ owes (VT d L) O W)
      ⊢ wp frame (wpE (defs₀ (F := F)) 𝒱₀ (VT d L) none) Set.univ
          (cc0__body L xV (Memref.isWhole_whole _) iV (Memref.isWhole_whole _) jV (Memref.isWhole_whole _) oV (Memref.isWhole_whole _)
            sV (Memref.isWhole_whole _) aV (Memref.isWhole_whole _) bV (Memref.isWhole_whole _) tV (Memref.isWhole_whole _)
            cc0_scoped0 cc0_scoped1 cc0_scoped2 cc0_scoped3 cc0_scoped4)
          fun _ => iprop(taskRes m d (kL L) (outF m d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cL L) (sL L), SparseCore.Cfg.scopedSems0_V (Val := Elt F) d (cL L) (sL L), ownSems0_V, ownBufs_V]
  iintro ⟨#Hlv, -, ⟨Hx, Hi, Hj, Ho⟩, ⟨⟨%fs, Hs⟩, ⟨%fa, Ha⟩, ⟨%fb, Hb⟩, ⟨%ft, Ht⟩, Hbufs⟩, ⟨HC, Hsems⟩, HO⟩
  ihave Hmw := (show levAts (K (F := F)).L (K (F := F)).lev ⊢ Transfers.MayWaits (VT d L) (default : HIx 1) O
    from (K (F := F)).mayWaits_none (thr := VT d L) hO) $$ Hlv
  ihave Ho := (Entails.of_eq (pts_oRowK (F := F) d L (m (oLoc d))).symm) $$ Ho
  iapply (wp_wand_r Idealize.ShloMosaic.frame (wpE (defs₀ (F := F)) 𝒱₀ (VT d L) none) Set.univ)
  isplitl [Hmw Hx Hi Hj Ho Hs Ha Hb Ht HC HO]
  · iapply (tile_run m d L hpre (qk (kL L)) O W fs fa fb ft)
    isplitl [Hmw]; · iexact Hmw
    isplitl [Hx]; · iexact Hx
    isplitl [Hi]; · iexact Hi
    isplitl [Hj]; · iexact Hj
    isplitl [Ho]; · iexact Ho
    isplitl [Hs]; · iexact Hs
    isplitl [Ha]; · iexact Ha
    isplitl [Hb]; · iexact Hb
    isplitl [Ht]; · iexact Ht
    isplitl [HC]; · iexact HC
    iexact HO
  iintro %_ ⟨Hx, Hi, Hj, Ho, Hs, Ha, Hb, Ht, HC, %W', %hW', HO⟩
  ihave Ho := (Entails.of_eq (pts_oRowK (F := F) d L (outF m d))) $$ Ho
  isplitl [Hx Hi Hj Ho]
  · isplitl [Hx]; · iexact Hx
    isplitl [Hi]; · iexact Hi
    isplitl [Hj]; · iexact Hj
    iexact Ho
  isplitl [Hs Ha Hb Ht Hbufs]
  · isplitl [Hs]; · iexact Hs
    isplitl [Ha]; · iexact Ha
    isplitl [Hb]; · iexact Hb
    isplitl [Ht]; · iexact Ht
    iexact Hbufs
  isplitl [HC Hsems]
  · isplitl [HC]; · iexact HC
    iexact Hsems
  iexists W'
  isplitr
  · ipureintro; exact fun p hp => (hW' p hp).imp_right Or.inl
  · iexact HO

set_option maxRecDepth 16384 in
theorem tileObl (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF hpre O W hO

/-! ## The launch's ghost state: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## The host's operations on the TensorCore -/

abbrev x' : DevRef τ sig := Proc.devRef .tc (main_arg0 : Ref sig .tc)
abbrev i' : DevRef τ sig := Proc.devRef .tc (main_arg1 : Ref sig .tc)
abbrev j' : DevRef τ sig := Proc.devRef .tc (main_arg2 : Ref sig .tc)
abbrev o' : DevRef τ sig := Proc.devRef .tc (main_v0 : Ref sig .tc)
abbrev z' : DevRef τ sig := Proc.devRef .tc (main_cst : Ref sig .tc)
abbrev r' : DevRef τ sig := Proc.devRef .tc (main_v1 : Ref sig .tc)

/-- The zero the sum starts from, and the sum over all partial sums. -/
abbrev opZero : HloOp τ sig (Elt F) := StableHlo.nullary main_cst (constant S_ .f32 0x00000000#32)
abbrev opSum : HloOp τ sig (Elt F) := StableHlo.binary main_v0 main_cst main_v1
  ((fun x v => Host.reduceAdd x v reducesTo_S32x16_S_d0_1 h_S_) :
    (⟨S32x16, .f32⟩ : BufTy).Contents (Elt F) → (⟨S_, .f32⟩ : BufTy).Contents (Elt F) → (⟨S_, .f32⟩ : BufTy).Contents (Elt F))

/-- The arrays the two operations name. -/
abbrev S3 : Finset (DevRef τ sig) := {o', z', r'}

omit [FloatOps F] in
theorem held_S3 (d : Dev nD) (W : Valuation τ sig (Elt F)) :
    (held (T d) S3 W : sProp 𝕄) = iprop((oLoc d ↦{fullShare} W o') ∗ ((SparseCore.T d).loc main_cst ↦{fullShare} W z') ∗ rLoc d ↦{fullShare} W r') := by
  unfold held S3
  rw [SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (iLoc d ↦{fullShare} W main_arg1) ∗ (jLoc d ↦{fullShare} W main_arg2)
      ∗ (oLoc d ↦{fullShare} W main_v0) ∗ ((SparseCore.T d).loc main_cst ↦{fullShare} W main_cst) ∗ rLoc d ↦{fullShare} W main_v1) := by
  unfold unscopedBufs
  rw [show (Finset.univ.filter fun b : Ref sig .tc => ¬ b.isScoped) = {main_arg0, main_arg1, main_arg2, main_v0, main_cst, main_v1} by decide,
    SparseCore.bigSep_insert' (by decide), SparseCore.bigSep_insert' (by decide), SparseCore.bigSep_insert' (by decide),
    SparseCore.bigSep_insert' (by decide), SparseCore.bigSep_insert' (by decide), bigSep_singleton]

/-- The launch contents but for the partial sums, which are the kernel's. -/
def V1 (d : Dev nD) : Valuation τ sig (Elt F) := Function.update (fun b => m (d, b)) o' (outF m d)
/-- After the zero, and after the sum. -/
abbrev V2 (d : Dev nD) : Valuation τ sig (Elt F) := (opZero (F := F)).result (V1 m d)
abbrev V3 (d : Dev nD) : Valuation τ sig (Elt F) := (opSum (F := F)).result (V2 m d)

theorem V1_o (d : Dev nD) : V1 m d o' = outF m d := Function.update_self _ _ _
theorem V1_z (d : Dev nD) : V1 m d z' = m ((SparseCore.T d).loc main_cst) := Function.update_of_ne (show z' ≠ o' by decide) _ _
theorem V1_r (d : Dev nD) : V1 m d r' = m (rLoc d) := Function.update_of_ne (show r' ≠ o' by decide) _ _
theorem V2_o (d : Dev nD) : V2 m d o' = outF m d := by
  unfold V2
  rw [(opZero (F := F)).result_of_not_mem (V1 m d) (b := o') (show o' ∉ ({z'} : Finset (DevRef τ sig)) by decide), V1_o]
theorem V2_z (d : Dev nD) : V2 m d z' = constant (F := F) S_ .f32 0x00000000#32 := by
  unfold V2
  exact StableHlo.nullary_result ..
/-- The result array ends at the sum over all partial sums. -/
theorem V3_r (d : Dev nD) : V3 m d r' = total (F := F) (m (xLoc d)) (wI m d).toNat (wJ m d).toNat := by
  unfold V3
  refine (StableHlo.binary_result ..).trans ?_
  rw [show V2 m d (Proc.devRef .tc (main_v0 : Ref sig .tc)) = _ from V2_o m d,
    show V2 m d (Proc.devRef .tc (main_cst : Ref sig .tc)) = _ from V2_z m d]
  rfl

theorem hZero : (opZero (F := F)).bufs ⊆ S3 := show ({z'} : Finset (DevRef τ sig)) ⊆ S3 by decide
theorem hSum : (opSum (F := F)).bufs ⊆ S3 := show ({o', z', r'} : Finset (DevRef τ sig)) ⊆ S3 by decide

/-- What the run leaves: the arguments at their launch contents and the result at the sum. -/
abbrev FIN (d : Dev nD) : sProp 𝕄 := iprop(xPts m d fullShare ∗ iPts m d fullShare ∗ jPts m d fullShare
  ∗ rLoc d ↦{fullShare} total (F := F) (m (xLoc d)) (wI m d).toNat (wJ m d).toNat)

/-- The host's program on device `d`: the call, then the zero, then the sum. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hi, Hj, Ho, Hz, Hr⟩, Hts, -⟩, -⟩
  iapply ((K (F := F)).wp_run (D (F := F)) 𝒱 (EH := EH) (P := P m) κ d 0) $$ [Hst Hx Hi Hj Ho Hz Hr Hb Hts]
  isplitr; · iexact Hctx
  isplitl [Hst]; · iexact Hst
  isplitl [Hx Hi Hj Ho]
  · rw [st0_eq]
    isplitl [Hx]; · iexact Hx
    isplitl [Hi]; · iexact Hi
    isplitl [Hj]; · iexact Hj
    iexact Ho
  iintro ⟨Hst, Hdn⟩
  ihave Hdn' := (Entails.of_eq (dn0_eq m d)) $$ Hdn
  icases Hdn' with ⟨Hx, Hi, Hj, Ho⟩
  iapply (wp_hlo_within 𝒱 (SparseCore.T d) none Set.univ (op := opZero) (S := S3) hZero (V := V1 m d)) $$ [Hb Ho Hz Hr]
  · isplitl [Hb]; · iexact Hb
    rw [held_S3, V1_o, V1_z, V1_r]
    isplitl [Ho]; · iexact Ho
    isplitl [Hz]; · iexact Hz
    iexact Hr
  iintro ⟨Hb, Hheld⟩
  rw [wp_ret]; imodintro
  iapply (wp_hlo_within 𝒱 (SparseCore.T d) none Set.univ (op := opSum) (S := S3) hSum (V := V2 m d)) $$ [Hb Hheld]
  · isplitl [Hb]; · iexact Hb
    iexact Hheld
  iintro ⟨Hb, Hheld⟩
  ihave Hh := (Entails.of_eq (held_S3 (F := F) d ((opSum (F := F)).result (V2 m d)))) $$ Hheld
  icases Hh with ⟨-, -, Hr⟩
  ihave Hr := (Entails.of_eq (congrArg (fun f => (rLoc d ↦{fullShare} f : sProp 𝕄)) (V3_r m d))) $$ Hr
  rw [wp_ret]; imodintro; imodintro
  isplitl [Hst]; · iexact Hst
  isplitr [Hb Hts]
  · isplitl [Hx]; · iexact Hx
    isplitl [Hi]; · iexact Hi
    isplitl [Hj]; · iexact Hj
    iexact Hr
  isplitl [Hb] <;> iassumption

/-- What a final state holds on device `d`. -/
def fq (d : Dev nD) (s' : Phys nD τ sig (Elt F)) : Prop :=
  s'.mem.mem (xLoc d) = m (xLoc d) ∧ s'.mem.mem (iLoc d) = m (iLoc d) ∧ s'.mem.mem (jLoc d) = m (jLoc d)
    ∧ s'.mem.mem (rLoc d) = total (F := F) (m (xLoc d)) (wI m d).toNat (wJ m d).toNat

set_option maxRecDepth 16384 in
theorem hfin (d : Dev nD) (s' : Phys nD τ sig (Elt F)) : iprop(FIN m d ∗ SI s') ⊢ (⌜fq m d s'⌝ : sProp 𝕄) := by
  iintro ⟨⟨Hx, Hi, Hj, Hr⟩, HSI⟩
  ihave H := (persistent_entails_right (SI_pointsTo_agree (st := s') (ℓ := xLoc d) (I := Finset.univ) (q := fullShare) (f := m (xLoc d)))) $$ [HSI Hx]
  · isplitl [HSI] <;> iassumption
  icases H with ⟨%h1, HSI, -⟩
  ihave H := (persistent_entails_right (SI_pointsTo_agree (st := s') (ℓ := iLoc d) (I := Finset.univ) (q := fullShare) (f := m (iLoc d)))) $$ [HSI Hi]
  · isplitl [HSI] <;> iassumption
  icases H with ⟨%h2, HSI, -⟩
  ihave H := (persistent_entails_right (SI_pointsTo_agree (st := s') (ℓ := jLoc d) (I := Finset.univ) (q := fullShare) (f := m (jLoc d)))) $$ [HSI Hj]
  · isplitl [HSI] <;> iassumption
  icases H with ⟨%h3, HSI, -⟩
  ihave H := (SI_pointsTo_agree (st := s') (ℓ := rLoc d) (I := Finset.univ) (q := fullShare)
    (f := total (F := F) (m (xLoc d)) (wI m d).toNat (wJ m d).toNat)) $$ [HSI Hr]
  · isplitl [HSI] <;> iassumption
  icases H with %h4
  ipureintro
  exact ⟨funext fun i => h1 i (Finset.mem_univ i), funext fun i => h2 i (Finset.mem_univ i),
    funext fun i => h3 i (Finset.mem_univ i), funext fun i => h4 i (Finset.mem_univ i)⟩

/-! ## The program's run -/

def QC : PUnit × MemSt nD τ sig (Elt F) → Prop := fun r =>
  (∀ c : Dev nD, r.2.mem (xLoc c) = m (xLoc c) ∧ r.2.mem (iLoc c) = m (iLoc c) ∧ r.2.mem (jLoc c) = m (jLoc c)
    ∧ r.2.mem (rLoc c) = total (F := F) (m (xLoc c)) (wI m c).toNat (wJ m c).toNat) ∧ r.2.sem = fun _ => 0

/-- For any float values: the program runs, its arguments end unchanged, its result is the sum of the tasks' scaled sums,
    and every semaphore ends at zero. -/
theorem run_main [∀ e, Nonempty (Elt F e)] (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Sc

end
-- ==== Proof.Frames.lean ====
/-
  The programs run: both readings of the kernel under the precondition, and the reference; arguments unchanged, counters zero.
-/
module

public import proofs.«01_k».proof.Defs
public import proofs.«01_k».proof.Proof.PreRead
public import proofs.«01_k».proof.Proof.Launch
public import proofs.«01_k».proof.Proof.Ideal.Launch
public import proofs.«01_k».proof.Proof.Gen.ReferenceIdeal.Run

@[expose] public section

noncomputable section

namespace Cert.Frames

open Idealize.ShloMosaic Idealize.SL.Sem

/-- Under the precondition the two words the kernel reads are at most 871. -/
theorem ok_kernel (m : (ℓ : Loc Cert.Kernel.nD Cert.Kernel.τ Cert.Kernel.sig) → Buf (Elt Bits) ℓ) (h : Cert.Pre_Kernel m) :
    Cert.Kernel.Sc.PreOK m := fun d =>
  ⟨(Cert.PreRead.of_pre _ _ _ (h d)).1.1, (Cert.PreRead.of_pre _ _ _ (h d)).2.1⟩

/-- The same of the kernel over the extended reals. -/
theorem ok_ideal (m : (ℓ : Loc Cert.KernelIdeal.nD Cert.KernelIdeal.τ Cert.KernelIdeal.sig) → Buf (Elt Ideal) ℓ) (h : Cert.Pre_KernelIdeal m) :
    Cert.KernelIdeal.Sc.PreOK m := fun d =>
  ⟨(Cert.PreRead.of_pre _ _ _ (h d)).1.1, (Cert.PreRead.of_pre _ _ _ (h d)).2.1⟩

/-- The kernel runs on words: no fault, arguments unchanged, every counter at zero. -/
theorem kernel : Cert.quiescent_Kernel := fun m ρ hpre =>
  (θ_run Cert.Kernel.defs _ _).mono (fun _ h => ⟨fun c => ⟨(h.1 c).1, (h.1 c).2.1, (h.1 c).2.2.1⟩, h.2⟩)
    (Cert.Kernel.Sc.run_main (F := Bits) m ρ (ok_kernel m hpre))

/-- The kernel runs over the extended reals. -/
theorem ideal : Cert.quiescent_KernelIdeal := fun m ρ hpre =>
  (θ_run Cert.KernelIdeal.defs _ _).mono (fun _ h => ⟨fun c => ⟨(h.1 c).1, (h.1 c).2.1, (h.1 c).2.2.1⟩, h.2⟩)
    (Cert.KernelIdeal.Sc.run_main (F := Ideal) m ρ (ok_ideal m hpre))

/-- The reference runs, and it has no counter at all. -/
theorem reference : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

end Cert.Frames

end
-- ==== Proof.RefValue.lean ====
/-
  The reference's result over the extended reals, written as a sum of products of the table's entries: under the precondition
  every index is inside the table, so the wrap of negative indices changes nothing and no entry is filled in.
-/
module

public import proofs.«01_k».proof.Proof.Gen.ReferenceIdeal
public import Idealize.ShloMosaic.Lib.IdealHost
public import Idealize.ShloMosaic.Lib.ReduceAll
public import Idealize.ShloMosaic.Lib.Pointwise.Reduce

@[expose] public section

noncomputable section

namespace Cert.RefValue

open Cert.ReferenceIdeal Cert.ReferenceIdeal.Gen
open Idealize.ShloMosaic hiding ix1 ix2
open Idealize.ShloMosaic.ValueIdx
open scoped BigOperators

/-- The column gather at row `r` and place `p`: the table's row `r` at the column that place's index names, read signed
and kept inside the table. -/
theorem gather_col {α : Type} (x : S16384x1000.Idx → α) (idx : IVec S128x1 32) (r : Fin 16384) (p : Fin 128) :
    Host.gather gather_S16384x1000_S128x1_S16384x128_0_1_n_n_1_1_163841 x idx (ix2 r p)
      = x (ix2 r ⟨min (idx (ix2 p (0 : Fin 1))).toInt.toNat 999, by omega⟩) := by
  let g := gather_S16384x1000_S128x1_S16384x128_0_1_n_n_1_1_163841
  show x (g.operandIdx (ix2 r p) idx) = _
  congr 1
  funext a
  refine Fin.ext ?_
  show g.start (ix2 r p) idx a + g.batchCoord (ix2 r p) a + g.offCoord (ix2 r p) a = _
  rw [GatherDims.batchCoord_eq_zero _ _ _ List.not_mem_nil, Nat.add_zero]
  match a with
  | ⟨0, _⟩ =>
    have hs : g.start (ix2 r p) idx (0 : Fin 2) = 0 := by
      unfold GatherDims.start
      exact dif_neg (show ¬ (0 : Fin 2) ∈ [(1 : Fin 2)] by decide)
    have ho : g.offCoord (ix2 r p) (0 : Fin 2) = r.val := by
      unfold GatherDims.offCoord
      rw [dif_pos ((GatherDims.mem_sKept _ _).mpr ⟨show ¬ (0 : Fin 2) ∈ [(1 : Fin 2)] by decide, List.not_mem_nil⟩)]
      rfl
    exact (congrArg₂ (· + ·) hs ho).trans (Nat.zero_add _)
  | ⟨1, _⟩ =>
    have ho : g.offCoord (ix2 r p) (1 : Fin 2) = 0 :=
      GatherDims.offCoord_eq_zero _ _ _ fun h => ((GatherDims.mem_sKept _ _).mp h).1 (List.mem_singleton.mpr rfl)
    have hm : (1 : Fin 2) ∈ g.startIndexMap := List.mem_singleton.mpr rfl
    have hi : g.siIdx (ix2 r p) ⟨List.idxOf (1 : Fin 2) g.startIndexMap, List.idxOf_lt_length_iff.2 hm⟩
        = ix2 p (0 : Fin 1) := by
      funext b; refine Fin.ext ?_
      match b with
      | ⟨0, _⟩ => rfl
      | ⟨1, _⟩ => rfl
    have hs : g.start (ix2 r p) idx (1 : Fin 2) = min (idx (ix2 p (0 : Fin 1))).toInt.toNat 999 := by
      unfold GatherDims.start
      rw [dif_pos hm, hi]
      rfl
    exact (congrArg₂ (· + ·) hs ho).trans (Nat.add_zero _)

/-- The reference's indices: a negative one counted from the table's end. -/
def wrapped (a : IVec S128 32) : IVec S128x1 32 :=
  broadcastInDim S128x1 ![0] bcast_S128_S128x1_0
    (select (cmpi .slt a (broadcastInDim S128 ![] bcast_S_S128 (constantI S_ 32 0#32)))
      (addi a (broadcastInDim S128 ![] bcast_S_S128 (constantI S_ 32 1000#32))) a)

/-- Whether each index is inside the table. -/
def inside (a : IVec S128 32) : IVec S128 1 :=
  Host.reduce IntOp.andi
    (andi (cmpi .sge (wrapped a) (broadcastInDim S128x1 ![] bcast_S_S128x1 (constantI S_ 32 0#32)))
      (cmpi .sle (wrapped a)
        (broadcastInDim S128x1 ![0, 1] bcast_S1x1_S128x1_0_1 (broadcastInDim S1x1 ![1] bcast_S1_S1x1_1 (constantI S1 32 999#32)))))
    (constantI S_ 1 1#1) reducesTo_S128x1_S128_d1 h_S_

/-- The columns the reference takes, with the fill value where an index is outside. -/
def taken (X : FVec Ideal S16384x1000 .f32) (a : IVec S128 32) : FVec Ideal S16384x128 .f32 :=
  select (broadcastInDim S16384x128 ![1] bcast_S128_S16384x128_1 (inside a))
    (Host.gather gather_S16384x1000_S128x1_S16384x128_0_1_n_n_1_1_163841 X (wrapped a))
    (broadcastInDim S16384x128 ![] bcast_S_S16384x128 (constant S_ .f32 0x7FC00000#32))

/-- The reference's result of a table and its two index arrays. -/
def result (X : FVec Ideal S16384x1000 .f32) (a b : IVec S128 32) : FVec Ideal S_ .f32 :=
  mulf (constant S_ .f32 0x41200000#32)
    (Host.divf
      (Host.reduceAdd
        (Host.reduceAdd (mulf (taken X a) (taken X b)) (constant S_ .f32 0x00000000#32) reducesTo_S16384x128_S16384_d1 h_S_)
        (constant S_ .f32 0x00000000#32) reducesTo_S16384_S_d0 h_S_)
      (constant S_ .f32 0x46800000#32))

/-- A word below 1000 is not negative, so its index is itself. -/
theorem wrapped_apply (a : IVec S128 32) (p : Fin 128) (q : Fin 1) (h : (a (ix1 p)).toNat < 1000) :
    wrapped a (ix2 p q) = a (ix1 p) := by
  have e : wrapped a (ix2 p q)
      = if IntOp.cmpi .slt (a (ix1 p)) 0#32 = 1#1 then IntOp.addi (a (ix1 p)) 1000#32 else a (ix1 p) := by
    unfold wrapped broadcastInDim
    show select _ _ a _ = _
    rw [select_apply]
    have hx : ∀ x : S128.Idx, x 0 = p → (if cmpi .slt a (fun _ => 0#32) x = 1#1 then addi a (fun _ => 1000#32) x else a x)
      = if IntOp.cmpi .slt (a (ix1 p)) 0#32 = 1#1 then IntOp.addi (a (ix1 p)) 1000#32 else a (ix1 p) := fun x hx => by
        have : x = ix1 p := funext fun b => by match b with | ⟨0, _⟩ => exact hx
        rw [this]; rfl
    exact hx _ (by apply Fin.ext; simp)
  rw [e, if_neg]
  have hn : IntOp.cmpi .slt (a (ix1 p)) 0#32 = BitVec.ofBool (BitVec.slt (a (ix1 p)) 0#32) := rfl
  rw [hn, show BitVec.slt (a (ix1 p)) 0#32 = false by
    rw [BitVec.slt_eq_decide, decide_eq_false_iff_not, BitVec.toInt_eq_toNat_cond]
    simp only [BitVec.toInt_zero]
    omega]
  decide

/-- When every word is below 1000, every index is inside. -/
theorem inside_apply (a : IVec S128 32) (h : ∀ p : Fin 128, (a (ix1 p)).toNat < 1000) (j : S128.Idx) : inside a j = 1#1 := by
  refine Host.reduce_andi_one _ _ _ _ _ rfl fun i => ?_
  have hi : i = ix2 (i 0) (i 1) := funext fun b => by
    match b with
    | ⟨0, _⟩ => rfl
    | ⟨1, _⟩ => rfl
  rw [hi]
  show IntOp.andi (IntOp.cmpi .sge (wrapped a (ix2 (i 0) (i 1))) 0#32) (IntOp.cmpi .sle (wrapped a (ix2 (i 0) (i 1))) 999#32) = 1#1
  have hp := h (i 0)
  rw [wrapped_apply a (i 0) (i 1) hp]
  have key : ∀ w : BitVec 32, w.toNat < 1000 → IntOp.andi (IntOp.cmpi .sge w 0#32) (IntOp.cmpi .sle w 999#32) = 1#1 := fun w hw => by
    have h1 : IntOp.cmpi .sge w 0#32 = BitVec.ofBool (BitVec.sle 0#32 w) := rfl
    have h2 : IntOp.cmpi .sle w 999#32 = BitVec.ofBool (BitVec.sle w 999#32) := rfl
    rw [h1, h2, show BitVec.sle 0#32 w = true by
        rw [BitVec.sle_eq_decide, decide_eq_true_eq, BitVec.toInt_eq_toNat_cond w]; simp only [BitVec.toInt_zero]; omega,
      show BitVec.sle w 999#32 = true by
        rw [BitVec.sle_eq_decide, decide_eq_true_eq, BitVec.toInt_eq_toNat_cond w, show (999#32 : BitVec 32).toInt = 999 from rfl]; omega]
    decide
  exact key _ hp

/-- An entry the reference takes is the table's at the column the index names. -/
theorem taken_apply (X : FVec Ideal S16384x1000 .f32) (a : IVec S128 32) (h : ∀ p : Fin 128, (a (ix1 p)).toNat < 1000)
    (r : Fin 16384) (p : Fin 128) : taken X a (ix2 r p) = X (ix2 r ⟨(a (ix1 p)).toNat, h p⟩) := by
  unfold taken
  rw [select_apply]
  have hb : broadcastInDim S16384x128 ![1] bcast_S128_S16384x128_1 (inside a) (ix2 r p) = 1#1 := inside_apply a h _
  rw [hb, select_one, gather_col]
  have hp := h p
  have e : min (wrapped a (ix2 p 0)).toInt.toNat 999 = (a (ix1 p)).toNat := by
    rw [wrapped_apply a p 0 hp, BitVec.toInt_eq_toNat_cond]; split <;> omega
  exact congrArg (fun n => X (ix2 r n)) (Fin.ext e)

/-- The reference's result: ten times the sum of the products over the number of rows. -/
theorem result_sum (X : FVec Ideal S16384x1000 .f32) (a b : IVec S128 32)
    (ha : ∀ p : Fin 128, (a (ix1 p)).toNat < 1000) (hb : ∀ p : Fin 128, (b (ix1 p)).toNat < 1000) (x : S_.Idx) :
    result X a b x = Ideal.ofBits .f32 0x41200000#32
      * Ideal.div (∑ r : Fin 16384, ∑ p : Fin 128, X (ix2 r ⟨(a (ix1 p)).toNat, ha p⟩) * X (ix2 r ⟨(b (ix1 p)).toNat, hb p⟩))
          (Ideal.ofBits .f32 0x46800000#32) := by
  have z : constant (F := Ideal) S_ .f32 0x00000000#32 (Shape.Idx.first h_S_) = (0 : EReal) := Ideal.ofBits_zero_f32
  have rowSum : ∀ r : Fin 16384, Host.reduceAdd (mulf (taken X a) (taken X b)) (constant S_ .f32 0x00000000#32)
      reducesTo_S16384x128_S16384_d1 h_S_ (ix1 r)
      = ∑ p : Fin 128, X (ix2 r ⟨(a (ix1 p)).toNat, ha p⟩) * X (ix2 r ⟨(b (ix1 p)).toNat, hb p⟩) := fun r => by
    rw [hostReduceAdd_apply, Ideal.hostReduceAdd_r2_a1, z, zero_add]
    refine Finset.sum_congr rfl fun p _ => ?_
    rw [mulf_apply]
    exact congrArg₂ (· * ·) (taken_apply X a ha r p) (taken_apply X b hb r p)
  unfold result
  rw [mulf_apply, hostDivf_apply, hostReduceAdd_apply, Ideal.hostReduceAdd_r1_a0, z, zero_add]
  refine congrArg (fun S => Ideal.ofBits .f32 0x41200000#32 * Ideal.div S (Ideal.ofBits .f32 0x46800000#32)) ?_
  exact Finset.sum_congr rfl fun r _ => rowSum r

end Cert.RefValue

end
-- ==== Proof.Equation.lean ====
/-
  The arithmetic that joins the two programs: a positive real factor passes through a sum of extended reals, the sums over
  tasks, rows, lanes and pieces are the sum over all rows and pairs, and the two ways to scale agree.
-/
module

public import Idealize.ShloMosaic.Lib.IdealHost
public import Mathlib.Data.EReal.Operations
public import Mathlib.Algebra.BigOperators.Fin

@[expose] public section

noncomputable section

namespace Cert.Equation

open Idealize.ShloMosaic
open scoped BigOperators

/-- A factor that is not negative and not infinite may be taken out of a sum, whatever the terms. -/
theorem sum_scaled {ι : Type} (s : Finset ι) (f : ι → EReal) (c : EReal) (h0 : 0 ≤ c) (h1 : c ≠ ⊤) :
    ∑ i ∈ s, f i * c = (∑ i ∈ s, f i) * c := by
  classical
  induction s using Finset.induction_on with
  | empty => rw [Finset.sum_empty, Finset.sum_empty, zero_mul]
  | insert a s ha ih =>
    rw [Finset.sum_insert ha, Finset.sum_insert ha, ih, EReal.right_distrib_of_nonneg_of_ne_top h0 h1]

/-- A sum over `m * n` numbers, as `m` stretches of `n`. -/
theorem sum_stretches (m n : ℕ) (f : ℕ → EReal) :
    ∑ k : Fin m, ∑ i : Fin n, f (k.val * n + i.val) = ∑ r : Fin (m * n), f r.val := by
  rw [← Fintype.sum_prod_type', ← Equiv.sum_comp finProdFinEquiv (fun r : Fin (m * n) => f r.val)]
  exact Finset.sum_congr rfl fun x _ => congrArg f (by simp [finProdFinEquiv]; ring)

/-- All rows and pairs, in the order the tasks take them. -/
theorem sum_all (f : ℕ → ℕ → EReal) :
    ∑ k : Fin 32, ∑ l : Fin 16, ∑ i : Fin 512, ∑ g : Fin 8, f (k.val * 512 + i.val) (g.val * 16 + l.val)
      = ∑ r : Fin 16384, ∑ p : Fin 128, f r.val p.val := by
  rw [← sum_stretches 32 512 fun r => ∑ p : Fin 128, f r p.val]
  refine Finset.sum_congr rfl fun k _ => ?_
  rw [Finset.sum_comm]
  refine Finset.sum_congr rfl fun i _ => ?_
  rw [Finset.sum_comm]
  exact sum_stretches 8 16 (f (k.val * 512 + i.val))

/-- The word the kernel scales by is ten sixteen-thousand-three-hundred-eighty-fourths. -/
theorem scale_val : Ideal.ofBits .f32 0x3A200000#32 = (((10 : ℝ) / 16384 : ℝ) : EReal) := by
  simp [Ideal.ofBits, Ideal.ieee, -EReal.coe_mul]; norm_num
theorem ten_val : Ideal.ofBits .f32 0x41200000#32 = ((10 : ℝ) : EReal) := by
  simp [Ideal.ofBits, Ideal.ieee, -EReal.coe_mul]; norm_num
theorem rows_val : Ideal.ofBits .f32 0x46800000#32 = ((16384 : ℝ) : EReal) := by
  simp [Ideal.ofBits, Ideal.ieee, -EReal.coe_mul]; norm_num

/-- Ten times a sum divided by the number of rows is the sum times the kernel's scale. -/
theorem scaled (S : EReal) : Ideal.ofBits .f32 0x41200000#32 * Ideal.div S (Ideal.ofBits .f32 0x46800000#32)
    = S * Ideal.ofBits .f32 0x3A200000#32 := by
  rw [scale_val, ten_val, rows_val, Ideal.div, if_neg (by norm_num), ← EReal.coe_inv, mul_left_comm, ← EReal.coe_mul]
  norm_num

/-- The kernel's order of adding and scaling against the mean times ten. -/
theorem joined (f : ℕ → ℕ → EReal) :
    ∑ k : Fin 32, ∑ l : Fin 16,
        (∑ i : Fin 512, ∑ g : Fin 8, f (k.val * 512 + i.val) (g.val * 16 + l.val)) * Ideal.ofBits .f32 0x3A200000#32
      = Ideal.ofBits .f32 0x41200000#32
          * Ideal.div (∑ r : Fin 16384, ∑ p : Fin 128, f r.val p.val) (Ideal.ofBits .f32 0x46800000#32) := by
  have h0 : (0 : EReal) ≤ Ideal.ofBits .f32 0x3A200000#32 := by rw [scale_val]; exact EReal.coe_nonneg.mpr (by norm_num)
  have h1 : Ideal.ofBits .f32 0x3A200000#32 ≠ ⊤ := by rw [scale_val]; exact EReal.coe_ne_top _
  rw [scaled, ← sum_all, ← sum_scaled _ _ _ h0 h1]
  exact Finset.sum_congr rfl fun k _ => sum_scaled _ _ _ h0 h1

end Cert.Equation

end
-- ==== Proof.Ideal.KernelSum.lean ====
/-
  The kernel's result over the extended reals, written as a sum of products of the table's entries.
-/
module

public import proofs.«01_k».proof.Proof.Ideal.Value
public import Idealize.ShloMosaic.Lib.ValueLayout
public import Idealize.ShloMosaic.Lib.IdealHost
public import Idealize.ShloMosaic.Lib.Pointwise.Reduce
public import Idealize.ShloMosaic.Lib.Pointwise.Reshape

@[expose] public section

noncomputable section

namespace Cert.KernelIdeal.Words

open Cert.KernelIdeal Cert.KernelIdeal.Gen
open Idealize.ShloMosaic hiding ix1 ix2
open Idealize.ShloMosaic.ValueIdx
open scoped BigOperators

/-- The product the kernel adds for row `r` and pair `p`. -/
def term (X : Vec Ideal S16384x1000 .f32) (bi bj r p : Nat) : EReal := cell X r (bi + p) * cell X r (bj + p)

/-- The scale the kernel multiplies by. -/
def scale : EReal := Ideal.ofBits .f32 0x3A200000#32

/-- A piece's lane is the entry that many columns on. -/
theorem seg_lane (X : Vec Ideal S16384x1000 .f32) (r c : Nat) (l : Fin 16) :
    shapeCast S16 (seg X r c) shapeCasts_S1x16_S16 (ix1 l) = cell X r (c + l.val) :=
  shapeCast_1a_a_apply (seg X r c) shapeCasts_S1x16_S16 l

/-- One row adds the eight pieces' products to a lane. -/
theorem rowStep_lane (X : Vec Ideal S16384x1000 .f32) (bi bj r : Nat) (acc : FVec Ideal S16 .f32) (l : Fin 16) :
    rowStep X bi bj r acc (ix1 l) = acc (ix1 l) + ∑ g : Fin 8, term X bi bj r (g.val * 16 + l.val) := by
  have h : ∀ g : Nat, shapeCast S16 (seg X r (bi + 16 * g)) shapeCasts_S1x16_S16 (ix1 l)
      * shapeCast S16 (seg X r (bj + 16 * g)) shapeCasts_S1x16_S16 (ix1 l) = term X bi bj r (g * 16 + l.val) := fun g => by
    rw [seg_lane, seg_lane, term, show bi + 16 * g + l.val = bi + (g * 16 + l.val) by omega,
      show bj + 16 * g + l.val = bj + (g * 16 + l.val) by omega]
  simp only [rowStep, k0_pay1, k0_pay5, addf_apply, mulf_apply, h, Fin.sum_univ_eight]
  simp only [← add_assoc]
  rfl

/-- A lane after `n` rows: the sum of the products of its pairs over those rows. -/
theorem accAt_lane (X : Vec Ideal S16384x1000 .f32) (bi bj r0 : Nat) (l : Fin 16) (n : Nat) :
    accAt X bi bj r0 n (ix1 l) = ∑ i ∈ Finset.range n, ∑ g : Fin 8, term X bi bj (r0 + i) (g.val * 16 + l.val) := by
  induction n with
  | zero =>
    rw [Finset.range_zero, Finset.sum_empty]
    exact Ideal.ofBits_zero_f32
  | succ n ih => rw [Finset.sum_range_succ, ← ih]; exact rowStep_lane X bi bj (r0 + n) (accAt X bi bj r0 n) l

/-- What a task stores in a lane: its rows' sum, scaled. -/
theorem taskVec_lane (X : Vec Ideal S16384x1000 .f32) (bi bj k : Nat) (l : Fin 16) :
    taskVec X bi bj k (ix1 l)
      = (∑ i : Fin 512, ∑ g : Fin 8, term X bi bj (k * 512 + i.val) (g.val * 16 + l.val)) * scale := by
  rw [Fin.sum_univ_eq_sum_range (fun i => ∑ g : Fin 8, term X bi bj (k * 512 + i) (g.val * 16 + l.val)) 512,
    Nat.mul_comm k 512, ← accAt_lane, taskVec, k0_pay6, shapeCast_id]
  rfl

/-- The kernel's result as a sum over tasks, lanes, rows and pieces. -/
theorem total_sum (X : Vec Ideal S16384x1000 .f32) (bi bj : Nat) (x : S_.Idx) :
    total X bi bj x = ∑ k : Fin 32, ∑ l : Fin 16,
      (∑ i : Fin 512, ∑ g : Fin 8, term X bi bj (k.val * 512 + i.val) (g.val * 16 + l.val)) * scale := by
  rw [total, hostReduceAdd_apply, Ideal.hostReduceAdd_r2_a01]
  rw [show constant (F := Ideal) S_ .f32 0x00000000#32 (Shape.Idx.first h_S_) = (0 : EReal) from _root_.Idealize.ShloMosaic.Ideal.ofBits_zero_f32, zero_add]
  exact Finset.sum_congr rfl fun k _ => Finset.sum_congr rfl fun l _ => taskVec_lane X bi bj k.val l

end Cert.KernelIdeal.Words

end
-- ==== Proof.Algebraic.lean ====
/-
  Over the extended reals the kernel and the reference leave the same number, for every table (infinite entries included) and
  every two index arrays that satisfy the precondition.
-/
module

public import proofs.«01_k».proof.Defs
public import proofs.«01_k».proof.Proof.Frames
public import proofs.«01_k».proof.Proof.RefValue
public import proofs.«01_k».proof.Proof.Equation
public import proofs.«01_k».proof.Proof.Ideal.KernelSum

@[expose] public section

noncomputable section

namespace Cert.Algebraic

open Idealize.ShloMosaic hiding ix1 ix2
open Idealize.ShloMosaic.ValueIdx Idealize.SL.Sem
open Cert.KernelIdeal.Words (cell term total total_sum)
open scoped BigOperators

/-- An entry named by a row and a column inside the table. -/
theorem cell_inside (X : FVec Ideal Cert.KernelIdeal.S16384x1000 .f32) (r : Fin 16384) (n : ℕ) (w : Fin 1000) (h : w.val = n) :
    cell X r.val n = X (ix2 r w) := by
  subst h
  exact congrArg₂ (fun p q => X (ix2 p q)) (Fin.ext (Nat.mod_eq_of_lt r.isLt)) (Fin.ext (Nat.mod_eq_of_lt w.isLt))

/-- The two programs' results agree on arrays that count up by one from a first word of at most 871. -/
theorem values_agree (X : FVec Ideal Cert.KernelIdeal.S16384x1000 .f32) (a b : IVec Cert.KernelIdeal.S128 32)
    (ha : (a (ix1 ⟨0, by decide⟩)).toNat ≤ 871 ∧ ∀ k : Fin 128, (a (ix1 k)).toNat = (a (ix1 ⟨0, by decide⟩)).toNat + k.val)
    (hb : (b (ix1 ⟨0, by decide⟩)).toNat ≤ 871 ∧ ∀ k : Fin 128, (b (ix1 k)).toNat = (b (ix1 ⟨0, by decide⟩)).toNat + k.val) :
    Cert.RefValue.result X a b = total (F := Ideal) X (a (ix1 ⟨0, by decide⟩)).toNat (b (ix1 ⟨0, by decide⟩)).toNat := by
  have la : ∀ p : Fin 128, (a (ix1 p)).toNat < 1000 := fun p => by rw [ha.2 p]; have := ha.1; omega
  have lb : ∀ p : Fin 128, (b (ix1 p)).toNat < 1000 := fun p => by rw [hb.2 p]; have := hb.1; omega
  funext x
  refine (Cert.RefValue.result_sum X a b la lb x).trans ?_
  refine Eq.trans ?_ (total_sum X _ _ x).symm
  refine Eq.trans ?_ (Cert.Equation.joined (term X (a (ix1 ⟨0, by decide⟩)).toNat (b (ix1 ⟨0, by decide⟩)).toNat)).symm
  refine congrArg (fun S => Ideal.ofBits .f32 0x41200000#32 * Ideal.div S (Ideal.ofBits .f32 0x46800000#32)) ?_
  refine Finset.sum_congr rfl fun r _ => Finset.sum_congr rfl fun p _ => ?_
  exact congrArg₂ (· * ·) (cell_inside X r _ ⟨_, la p⟩ (ha.2 p)).symm (cell_inside X r _ ⟨_, lb p⟩ (hb.2 p)).symm

/-- From arguments that agree and satisfy the precondition, the kernel and the reference both run and leave one result. -/
theorem holds : Cert.algebraic_KernelIdeal_ReferenceIdeal := by
  intro m g m' g' hpre hargs
  refine ⟨fun c => total (F := Ideal) (m (Cert.KernelIdeal.Sc.xLoc c)) (Cert.KernelIdeal.Sc.wI m c).toNat
      (Cert.KernelIdeal.Sc.wJ m c).toNat, ?_, ?_⟩
  · exact (θ_run Cert.KernelIdeal.defs _ _).mono
      (fun _ h c => ⟨(h.1 c).2.2.2, (h.1 c).1, (h.1 c).2.1, (h.1 c).2.2.1⟩)
      (Cert.KernelIdeal.Sc.run_main (F := Ideal) m g (Cert.Frames.ok_ideal m hpre))
  · refine (θ_run Cert.ReferenceIdeal.defs _ _).mono (fun _ h c => ⟨(h c).1.trans ?_, (h c).2⟩)
      (Cert.ReferenceIdeal.Value.run (F := Ideal) m' g')
    obtain ⟨ha, hb⟩ := Cert.PreRead.of_pre _ _ _ (hpre c)
    obtain ⟨e0, e1, e2⟩ := hargs c
    rw [e0, e1, e2]
    exact values_agree _ _ _ ha hb

end Cert.Algebraic

end
-- ==== Proof.lean ====
/-
  The certificate: each program runs and leaves its arguments as they were and its counters at zero,
  and the kernel leaves the reference's number.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_consecutive_columns
public import proofs.«01_k».proof.Proof.Frames
public import proofs.«01_k».proof.Proof.Algebraic

@[expose] public section

noncomputable section

namespace Cert.Proof

/-- Every claim of the certificate. -/
theorem claim : Cert.Claim :=
  ⟨Cert.Kernel.Gen.facts, Cert.KernelIdeal.Gen.facts, Cert.ReferenceIdeal.Gen.facts, Cert.Pre_consecutive_columns.Gen.facts,
    Cert.Frames.kernel, Cert.Frames.ideal, Cert.Frames.reference,
    fun m ρ _ => Cert.Frames.reference m ρ trivial, trivial, Cert.Algebraic.holds⟩

end Cert.Proof

end
